-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5)
      ∧ r.2.mem ((c.tc : Thread Cert.FfnDown.nD Cert.FfnDown.τ).loc Cert.FfnDown.main_arg6) = m ((c.tc : Thread Cert.FfnDown.nD Cert.FfnDown.τ).loc Cert.FfnDown.main_arg6))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4)
      ∧ r.2.mem ((c.tc : Thread Cert.ConvOutRefIdeal.nD Cert.ConvOutRefIdeal.τ).loc Cert.ConvOutRefIdeal.main_arg5) = m ((c.tc : Thread Cert.ConvOutRefIdeal.nD Cert.ConvOutRefIdeal.τ).loc Cert.ConvOutRefIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v31) = v0 c
          ∧ r.2.mem ((c.tc : Thread Cert.FfnUpRefIdeal.nD Cert.FfnUpRefIdeal.τ).loc Cert.FfnUpRefIdeal.main_v32) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)
      ∧ m' ((c.tc : Thread Cert.FfnDownRefIdeal.nD Cert.FfnDownRefIdeal.τ).loc Cert.FfnDownRefIdeal.main_arg6) = m ((c.tc : Thread Cert.FfnDownIdeal.nD Cert.FfnDownIdeal.τ).loc Cert.FfnDownIdeal.main_arg6)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
          ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v46) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0_0)) (v1 : (c : Dev Cert.ConvInIdeal.nD) → Buf (Elt Ideal) ((c.tc : Thread Cert.ConvInIdeal.nD Cert.ConvInIdeal.τ).loc Cert.ConvInIdeal.main_v0_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0_0) = v0 c
          ∧ r.2.mem ((c.tc : Thread Cert.ConvInIdeal.nD Cert.ConvInIdeal.τ).loc Cert.ConvInIdeal.main_v0_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v32) = v0 c
          ∧ r.2.mem ((c.tc : Thread Cert.ConvInRefIdeal.nD Cert.ConvInRefIdeal.τ).loc Cert.ConvInRefIdeal.main_v34) = v1 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)
      ∧ m' ((c.tc : Thread Cert.ConvOutRefIdeal.nD Cert.ConvOutRefIdeal.τ).loc Cert.ConvOutRefIdeal.main_arg5) = m ((c.tc : Thread Cert.ConvOutIdeal.nD Cert.ConvOutIdeal.τ).loc Cert.ConvOutIdeal.main_arg5)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
          ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v40) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4)
          ∧ r.2.mem ((c.tc : Thread Cert.ConvOutRefIdeal.nD Cert.ConvOutRefIdeal.τ).loc Cert.ConvOutRefIdeal.main_arg5) = m' ((c.tc : Thread Cert.ConvOutRefIdeal.nD Cert.ConvOutRefIdeal.τ).loc Cert.ConvOutRefIdeal.main_arg5))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v15) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v50)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v50) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v138) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hConvIn : Cert.ConvIn.Facts) (hConvInIdeal : Cert.ConvInIdeal.Facts) (hConvInRefIdeal : Cert.ConvInRefIdeal.Facts) (hConvOut : Cert.ConvOut.Facts) (hConvOutIdeal : Cert.ConvOutIdeal.Facts) (hConvOutRefIdeal : Cert.ConvOutRefIdeal.Facts) (hAttnOut : Cert.AttnOut.Facts) (hAttnOutIdeal : Cert.AttnOutIdeal.Facts) (hAttnOutRefIdeal : Cert.AttnOutRefIdeal.Facts) (hQkv : Cert.Qkv.Facts) (hQkvIdeal : Cert.QkvIdeal.Facts) (hQkvRefIdeal : Cert.QkvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_ConvIn_ConvInIdeal
    ∧ algebraic_ConvInIdeal_ConvInRefIdeal (hConvInIdeal := hConvInIdeal) (hConvInRefIdeal := hConvInRefIdeal)
    ∧ preserves_ConvOut_ConvOutIdeal
    ∧ algebraic_ConvOutIdeal_ConvOutRefIdeal (hConvOutIdeal := hConvOutIdeal) (hConvOutRefIdeal := hConvOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_Qkv_QkvIdeal
    ∧ algebraic_QkvIdeal_QkvRefIdeal (hQkvIdeal := hQkvIdeal) (hQkvRefIdeal := hQkvRefIdeal)
-- ==== Pre_finite.lean ====
abbrev S8192x3072 : Shape := ⟨2, ![8192, 3072]⟩
abbrev S256x3072 : Shape := ⟨2, ![256, 3072]⟩
abbrev S16 : Shape := ⟨1, ![16]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S256x3072 : S_.BroadcastsInDim S256x3072 (![] : Fin 0 → Fin S256x3072.rank)
  reducesTo_S256x3072_S_d0_1 : S256x3072.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x3072 .bf16) (main_arg1 : FVec F S256x3072 .bf16) (main_arg2 : FVec F S16 .f32) : IVec S_ 1 :=
  let main_v0 : FVec F S8192x3072 .f32 := (extf .f32 · bitsLt_bf16_f32) main_arg0
  let main_v1 : FVec F S256x3072 .f32 := (extf .f32 · bitsLt_bf16_f32) main_arg1
  let main_v2 : FVec F S8192x3072 .f32 := Host.absf main_v0
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_c : IVec S_ 1 := constantI S_ 1 1#1
  let main_v5 : IVec S_ 1 := (fun x v => Host.reduce IntOp.andi x v reducesTo_S8192x3072_S_d0_1 h_S_) main_v4 main_c
  let main_v6 : FVec F S256x3072 .f32 := Host.absf main_v1
  let main_cst_0 : FVec F S_ .f32 := constant S_ .f32 0x7F800000#32
  let main_v7 : FVec F S256x3072 .f32 := broadcastInDim S256x3072 ![] bcast_S_S256x3072 main_cst_0
  let main_v8 : IVec S256x3072 1 := cmpf .olt main_v6 main_v7
  let main_c_1 : IVec S_ 1 := constantI S_ 1 1#1
  let main_v9 : IVec S_ 1 := (fun x v => Host.reduce IntOp.andi x v reducesTo_S256x3072_S_d0_1 h_S_) main_v8 main_c_1
  let main_v10 : IVec S_ 1 := andi main_v5 main_v9
  let main_v11 : FVec F S16 .f32 := Host.absf main_arg2
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Kernel.lean ====
abbrev S8192x3072 : Shape := ⟨2, ![8192, 3072]⟩
abbrev S256x3072 : Shape := ⟨2, ![256, 3072]⟩
abbrev S16 : Shape := ⟨1, ![16]⟩
abbrev S8192x2048 : Shape := ⟨2, ![8192, 2048]⟩
abbrev S256x512 : Shape := ⟨2, ![256, 512]⟩
abbrev S128x128 : Shape := ⟨2, ![128, 128]⟩
abbrev S256x128 : Shape := ⟨2, ![256, 128]⟩
abbrev S768x128 : Shape := ⟨2, ![768, 128]⟩
abbrev S256x768 : Shape := ⟨2, ![256, 768]⟩
abbrev S1 : Shape := ⟨1, ![1]⟩
abbrev S256 : Shape := ⟨1, ![256]⟩
abbrev S256x1 : Shape := ⟨2, ![256, 1]⟩

abbrev nBuf : Space → Nat
  | .hbm => 4
  | .vmem => 20
  | .smem => 1
  | _ => 0

abbrev bufTy : (tb : Table) → Fin (tcTables nBuf tb) → BufTy
  | .hbm, ⟨0, _⟩ => ⟨S8192x3072, .bf16⟩
  | .hbm, ⟨1, _⟩ => ⟨S256x3072, .bf16⟩
  | .hbm, ⟨2, _⟩ => ⟨S16, .f32⟩
  | .hbm, ⟨3, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S256x128, .bf16⟩
  | .local _ .vmem, ⟨5, _⟩ => ⟨S256x128, .bf16⟩
  | .local _ .vmem, ⟨6, _⟩ => ⟨S128x128, .bf16⟩
  | .local _ .vmem, ⟨7, _⟩ => ⟨S128x128, .bf16⟩
  | .local _ .vmem, ⟨8, _⟩ => ⟨S256x128, .bf16⟩
  | .local _ .vmem, ⟨9, _⟩ => ⟨S256x128, .bf16⟩
  | .local _ .vmem, ⟨10, _⟩ => ⟨S128x128, .bf16⟩
  | .local _ .vmem, ⟨11, _⟩ => ⟨S128x128, .bf16⟩
  | .local _ .vmem, ⟨12, _⟩ => ⟨S256x128, .bf16⟩
  | .local _ .vmem, ⟨13, _⟩ => ⟨S256x128, .bf16⟩
  | .local _ .vmem, ⟨14, _⟩ => ⟨S128x128, .bf16⟩
  | .local _ .vmem, ⟨15, _⟩ => ⟨S128x128, .bf16⟩
  | .local _ .vmem, ⟨16, _⟩ => ⟨S256x128, .bf16⟩
  | .local _ .vmem, ⟨17, _⟩ => ⟨S256x128, .bf16⟩
  | .local _ .vmem, ⟨18, _⟩ => ⟨S256x512, .bf16⟩
  | .local _ .vmem, ⟨19, _⟩ => ⟨S256x512, .bf16⟩
  | .local _ .smem, ⟨0, _⟩ => ⟨S16, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def k0_off1 (i : grid0.Coords) (c0_i32_19 : BitVec 32) : Fin 1 → Nat :=
  let arg0 : BitVec 32 := BitVec.ofNat 32 (i 0).val
  let c4_i32 : BitVec 32 := 4#32
  let v32 : BitVec 32 := Scalar.muli arg0 c4_i32
  let v33 : BitVec 32 := Scalar.addi v32 c0_i32_19
  let v34 : Index := Scalar.indexCast v33
  ![v34.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c63_i32 : BitVec 32 := 63#32
  let v2 : BitVec 32 := Scalar.minsi v1 c63_i32
  let c16_i32 : BitVec 32 := 16#32
  let v3 : BitVec 32 := Scalar.addi c16_i32 arg0
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg0
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c63_i32 : BitVec 32 := 63#32
  let v2 : BitVec 32 := Scalar.minsi v1 c63_i32
  let c20_i32 : BitVec 32 := 20#32
  let v3 : BitVec 32 := Scalar.addi c20_i32 arg0
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S256x3072 : Shape := ⟨2, ![256, 3072]⟩
abbrev S16 : Shape := ⟨1, ![16]⟩
abbrev S8192x2048 : Shape := ⟨2, ![8192, 2048]⟩
abbrev S8192x512 : Shape := ⟨2, ![8192, 512]⟩
abbrev S256x512 : Shape := ⟨2, ![256, 512]⟩
abbrev S256x4x128 : Shape := ⟨3, ![256, 4, 128]⟩
abbrev S128 : Shape := ⟨1, ![128]⟩
abbrev S1x128x1 : Shape := ⟨3, ![1, 128, 1]⟩
abbrev S384 : Shape := ⟨1, ![384]⟩
abbrev S1x1x384 : Shape := ⟨3, ![1, 1, 384]⟩
abbrev S64 : Shape := ⟨1, ![64]⟩
abbrev S64x1x1 : Shape := ⟨3, ![64, 1, 1]⟩
abbrev S_ : Shape := ⟨0, ![]⟩
abbrev S64x1x384 : Shape := ⟨3, ![64, 1, 384]⟩
abbrev S1x128x384 : Shape := ⟨3, ![1, 128, 384]⟩
abbrev S64x128x384 : Shape := ⟨3, ![64, 128, 384]⟩
abbrev S4x4 : Shape := ⟨2, ![4, 4]⟩
abbrev S64x128x4x4x128 : Shape := ⟨5, ![64, 128, 4, 4, 128]⟩
abbrev S8192x4x128 : Shape := ⟨3, ![8192, 4, 128]⟩
abbrev S8448x4x128 : Shape := ⟨3, ![8448, 4, 128]⟩
abbrev S66x128x4x128 : Shape := ⟨4, ![66, 128, 4, 128]⟩
abbrev S64x128x4x128 : Shape := ⟨4, ![64, 128, 4, 128]⟩
abbrev S64x384x4x128 : Shape := ⟨4, ![64, 384, 4, 128]⟩
abbrev S4x64x384x128x4 : Shape := ⟨5, ![4, 64, 384, 128, 4]⟩
abbrev S4x4x64x128x384 : Shape := ⟨5, ![4, 4, 64, 128, 384]⟩
abbrev S4x256x64x128x4 : Shape := ⟨5, ![4, 256, 64, 128, 4]⟩
abbrev S4x4x64x128x256 : Shape := ⟨5, ![4, 4, 64, 128, 256]⟩
abbrev S4x4x64x128x640 : Shape := ⟨5, ![4, 4, 64, 128, 640]⟩
abbrev S4x4x1x1x1 : Shape := ⟨5, ![4, 4, 1, 1, 1]⟩
abbrev S4x4x64x128 : Shape := ⟨4, ![4, 4, 64, 128]⟩
abbrev S4x4x64x128x1 : Shape := ⟨5, ![4, 4, 64, 128, 1]⟩
abbrev S64x4x128x4x128 : Shape := ⟨5, ![64, 4, 128, 4, 128]⟩
abbrev S4x128x4x64x128 : Shape := ⟨5, ![4, 128, 4, 64, 128]⟩

abbrev nBuf : Space → Nat
  | .hbm => 111
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S256x3072, .bf16⟩
  | .hbm, ⟨2, _⟩ => ⟨S16, .f32⟩
  | .hbm, ⟨3, _⟩ => ⟨S8192x3072, .f32⟩
  | .hbm, ⟨4, _⟩ => ⟨S256x3072, .f32⟩
  | .hbm, ⟨5, _⟩ => ⟨S8192x2048, .f32⟩
  | .hbm, ⟨6, _⟩ => ⟨S8192x512, .f32⟩
  | .hbm, ⟨7, _⟩ => ⟨S8192x512, .f32⟩
  | .hbm, ⟨8, _⟩ => ⟨S256x512, .f32⟩
  | .hbm, ⟨9, _⟩ => ⟨S256x4x128, .f32⟩
  | .hbm, ⟨10, _⟩ => ⟨S256x512, .f32⟩
  | .hbm, ⟨11, _⟩ => ⟨S256x4x128, .f32⟩
  | .hbm, ⟨12, _⟩ => ⟨S128, .i32⟩
  | .hbm, ⟨13, _⟩ => ⟨S1x128x1, .i32⟩
  | .hbm, ⟨14, _⟩ => ⟨S384, .i32⟩
  | .hbm, ⟨15, _⟩ => ⟨S1x1x384, .i32⟩
  | .hbm, ⟨16, _⟩ => ⟨S64, .i32⟩
  | .hbm, ⟨17, _⟩ => ⟨S64x1x1, .i32⟩
  | .hbm, ⟨18, _⟩ => ⟨S_, .i32⟩
  | .hbm, ⟨19, _⟩ => ⟨S64x1x1, .i32⟩
  | .hbm, ⟨20, _⟩ => ⟨S64x1x1, .i32⟩
  | .hbm, ⟨21, _⟩ => ⟨S_, .i32⟩
  | .hbm, ⟨22, _⟩ => ⟨S64x1x1, .i32⟩
  | .hbm, ⟨23, _⟩ => ⟨S64x1x1, .i32⟩
  | .hbm, ⟨24, _⟩ => ⟨S64x1x384, .i32⟩
  | .hbm, ⟨25, _⟩ => ⟨S64x1x384, .i32⟩
  | .hbm, ⟨26, _⟩ => ⟨S64x1x384, .i32⟩
  | .hbm, ⟨27, _⟩ => ⟨S1x128x384, .i32⟩
  | .hbm, ⟨28, _⟩ => ⟨S1x128x384, .i32⟩
  | .hbm, ⟨29, _⟩ => ⟨S1x128x384, .i32⟩
  | .hbm, ⟨30, _⟩ => ⟨S_, .i32⟩
  | .hbm, ⟨31, _⟩ => ⟨S1x128x384, .i32⟩
  | .hbm, ⟨32, _⟩ => ⟨S1x128x384, .i32⟩
  | .hbm, ⟨33, _⟩ => ⟨S1x128x384, .i32⟩
  | .hbm, ⟨34, _⟩ => ⟨S_, .i32⟩
  | .hbm, ⟨35, _⟩ => ⟨S1x128x384, .i32⟩
  | .hbm, ⟨36, _⟩ => ⟨S1x128x384, .i1⟩
  | .hbm, ⟨37, _⟩ => ⟨S_, .i32⟩
  | .hbm, ⟨38, _⟩ => ⟨S64x1x384, .i32⟩
  | .hbm, ⟨39, _⟩ => ⟨S64x1x384, .i1⟩
  | .hbm, ⟨40, _⟩ => ⟨S64x128x384, .i1⟩
  | .hbm, ⟨41, _⟩ => ⟨S64x128x384, .i1⟩
  | .hbm, ⟨42, _⟩ => ⟨S64x128x384, .i1⟩
  | .hbm, ⟨43, _⟩ => ⟨S_, .i32⟩
  | .hbm, ⟨44, _⟩ => ⟨S64x1x384, .i32⟩
  | .hbm, ⟨45, _⟩ => ⟨S64x1x384, .i1⟩
  | .hbm, ⟨46, _⟩ => ⟨S64x128x384, .i1⟩
  | .hbm, ⟨47, _⟩ => ⟨S64x128x384, .i1⟩
  | .hbm, ⟨48, _⟩ => ⟨S4x4, .f32⟩
  | .hbm, ⟨49, _⟩ => ⟨S64x128x4x4x128, .f32⟩
  | .hbm, ⟨50, _⟩ => ⟨S8192x4x128, .f32⟩
  | .hbm, ⟨51, _⟩ => ⟨S_, .i32⟩
  | .hbm, ⟨52, _⟩ => ⟨S_, .f32⟩
  | .hbm, ⟨53, _⟩ => ⟨S8448x4x128, .f32⟩
  | .hbm, ⟨54, _⟩ => ⟨S66x128x4x128, .f32⟩
  | .hbm, ⟨55, _⟩ => ⟨S8192x4x128, .f32⟩
  | .hbm, ⟨56, _⟩ => ⟨S_, .i32⟩
  | .hbm, ⟨57, _⟩ => ⟨S_, .f32⟩
  | .hbm, ⟨58, _⟩ => ⟨S8448x4x128, .f32⟩
  | .hbm, ⟨59, _⟩ => ⟨S66x128x4x128, .f32⟩
  | .hbm, ⟨60, _⟩ => ⟨S64x128x4x128, .f32⟩
  | .hbm, ⟨61, _⟩ => ⟨S64x128x4x128, .f32⟩
  | .hbm, ⟨62, _⟩ => ⟨S64x128x4x128, .f32⟩
  | .hbm, ⟨63, _⟩ => ⟨S64x384x4x128, .f32⟩
  | .hbm, ⟨64, _⟩ => ⟨S64x128x4x128, .f32⟩
  | .hbm, ⟨65, _⟩ => ⟨S64x128x4x128, .f32⟩
  | .hbm, ⟨66, _⟩ => ⟨S64x128x4x128, .f32⟩
  | .hbm, ⟨67, _⟩ => ⟨S64x384x4x128, .f32⟩
  | .hbm, ⟨68, _⟩ => ⟨S4x64x384x128x4, .f32⟩
  | .hbm, ⟨69, _⟩ => ⟨S4x4x64x128x384, .f32⟩
  | .hbm, ⟨70, _⟩ => ⟨S_, .f32⟩
  | .hbm, ⟨71, _⟩ => ⟨S4x4x64x128x384, .f32⟩
  | .hbm, ⟨72, _⟩ => ⟨S4x4x64x128x384, .f32⟩
  | .hbm, ⟨73, _⟩ => ⟨S_, .f32⟩
  | .hbm, ⟨74, _⟩ => ⟨S_, .f32⟩
  | .hbm, ⟨75, _⟩ => ⟨S4x4x64x128x384, .i1⟩
  | .hbm, ⟨76, _⟩ => ⟨S4x4x64x128x384, .f32⟩
  | .hbm, ⟨77, _⟩ => ⟨S4x4x64x128x384, .f32⟩
  | .hbm, ⟨78, _⟩ => ⟨S4x256x64x128x4, .f32⟩
  | .hbm, ⟨79, _⟩ => ⟨S4x4x64x128x256, .f32⟩
  | .hbm, ⟨80, _⟩ => ⟨S_, .f32⟩
  | .hbm, ⟨81, _⟩ => ⟨S4x4x64x128x256, .f32⟩
  | .hbm, ⟨82, _⟩ => ⟨S4x4x64x128x256, .f32⟩
  | .hbm, ⟨83, _⟩ => ⟨S4x4x64x128x640, .f32⟩
  | .hbm, ⟨84, _⟩ => ⟨S4x4x1x1x1, .f32⟩
  | .hbm, ⟨85, _⟩ => ⟨S_, .f32⟩
  | .hbm, ⟨86, _⟩ => ⟨S4x4x64x128, .f32⟩
  | .hbm, ⟨87, _⟩ => ⟨S4x4x64x128x1, .f32⟩
  | .hbm, ⟨88, _⟩ => ⟨S4x4x64x128x1, .f32⟩
  | .hbm, ⟨89, _⟩ => ⟨S4x4x64x128x1, .f32⟩
  | .hbm, ⟨90, _⟩ => ⟨S4x4x64x128x640, .f32⟩
  | .hbm, ⟨91, _⟩ => ⟨S4x4x64x128x640, .f32⟩
  | .hbm, ⟨92, _⟩ => ⟨S4x4x64x128x640, .f32⟩
  | .hbm, ⟨93, _⟩ => ⟨S_, .f32⟩
  | .hbm, ⟨94, _⟩ => ⟨S4x4x64x128, .f32⟩
  | .hbm, ⟨95, _⟩ => ⟨S4x4x64x128x1, .f32⟩
  | .hbm, ⟨96, _⟩ => ⟨S4x4x64x128x1, .f32⟩
  | .hbm, ⟨97, _⟩ => ⟨S4x4x64x128x1, .f32⟩
  | .hbm, ⟨98, _⟩ => ⟨S4x4x64x128x1, .f32⟩
  | .hbm, ⟨99, _⟩ => ⟨S4x4x64x128x1, .f32⟩
  | .hbm, ⟨100, _⟩ => ⟨S4x4x64x128x640, .f32⟩
  | .hbm, ⟨101, _⟩ => ⟨S4x4x64x128x640, .f32⟩
  | .hbm, ⟨102, _⟩ => ⟨S4x4x64x128x384, .f32⟩
  | .hbm, ⟨103, _⟩ => ⟨S64x4x128x4x128, .f32⟩
  | .hbm, ⟨104, _⟩ => ⟨S64x128x4x4x128, .f32⟩
  | .hbm, ⟨105, _⟩ => ⟨S4x4x64x128x256, .f32⟩
  | .hbm, ⟨106, _⟩ => ⟨S4x128x4x64x128, .f32⟩
  | .hbm, ⟨107, _⟩ => ⟨S64x128x4x4x128, .f32⟩
  | .hbm, ⟨108, _⟩ => ⟨S64x128x4x4x128, .f32⟩
  | .hbm, ⟨109, _⟩ => ⟨S8192x2048, .f32⟩
  | .hbm, ⟨110, _⟩ => ⟨S8192x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_2 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_5 : Ref sig .tc := ⟨.hbm, 51, rfl⟩
abbrev main_call0_v0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_call1_v0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== FfnUp.lean ====
abbrev S8192x2048 : Shape := ⟨2, ![8192, 2048]⟩
abbrev S4x8x12288 : Shape := ⟨3, ![4, 8, 12288]⟩
abbrev S4x2048x11264 : Shape := ⟨3, ![4, 2048, 11264]⟩
abbrev S8192x5632 : Shape := ⟨2, ![8192, 5632]⟩
abbrev S1024x2048 : Shape := ⟨2, ![1024, 2048]⟩
abbrev S1x8x2048 : Shape := ⟨3, ![1, 8, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S1x1x2048 : Shape := ⟨3, ![1, 1, 2048]⟩
abbrev S1x2048 : Shape := ⟨2, ![1, 2048]⟩
abbrev S2048x512 : Shape := ⟨2, ![2048, 512]⟩

abbrev nBuf : Space → Nat
  | .hbm => 5
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4x8x12288, .f32⟩
  | .hbm, ⟨2, _⟩ => ⟨S4x2048x11264, .f32⟩
  | .hbm, ⟨3, _⟩ => ⟨S8192x5632, .bf16⟩
  | .hbm, ⟨4, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnUpRefIdeal.lean ====
abbrev S8192x2048 : Shape := ⟨2, ![8192, 2048]⟩
abbrev S4x8x12288 : Shape := ⟨3, ![4, 8, 12288]⟩
abbrev S4x2048x11264 : Shape := ⟨3, ![4, 2048, 11264]⟩
abbrev S1x1x12288 : Shape := ⟨3, ![1, 1, 12288]⟩
abbrev S12288 : Shape := ⟨1, ![12288]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x8x12288, .f32⟩
  | .hbm, ⟨2, _⟩ => ⟨S4x2048x11264, .f32⟩
  | .hbm, ⟨3, _⟩ => ⟨S1x1x12288, .f32⟩
  | .hbm, ⟨4, _⟩ => ⟨S12288, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048x11264, .f32⟩
  | .hbm, ⟨34, _⟩ => ⟨S2048x11264, .f32⟩
  | .hbm, ⟨35, _⟩ => ⟨S8192x11264, .f32⟩
  | .hbm, ⟨36, _⟩ => ⟨S8192x5632, .f32⟩
  | .hbm, ⟨37, _⟩ => ⟨S8192x5632, .f32⟩
  | .hbm, ⟨38, _⟩ => ⟨S8192x5632, .bf16⟩
  | .hbm, ⟨39, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== FfnDown.lean ====
abbrev S8192x5632 : Shape := ⟨2, ![8192, 5632]⟩
abbrev S4x3x5632 : Shape := ⟨3, ![4, 3, 5632]⟩
abbrev S4x5632 : Shape := ⟨2, ![4, 5632]⟩
abbrev S4x5632x2048 : Shape := ⟨3, ![4, 5632, 2048]⟩
abbrev S8192x2048 : Shape := ⟨2, ![8192, 2048]⟩
abbrev S4x8x12288 : Shape := ⟨3, ![4, 8, 12288]⟩
abbrev S4x1x5632 : Shape := ⟨3, ![4, 1, 5632]⟩
abbrev S1024x512 : Shape := ⟨2, ![1024, 512]⟩
abbrev S16x512 : Shape := ⟨2, ![16, 512]⟩
abbrev S1x3x512 : Shape := ⟨3, ![1, 3, 512]⟩
abbrev S1x1x512 : Shape := ⟨3, ![1, 1, 512]⟩
abbrev S1x512x2048 : Shape := ⟨3, ![1, 512, 2048]⟩
abbrev S1024x2048 : Shape := ⟨2, ![1024, 2048]⟩
abbrev S1x8x2048 : Shape := ⟨3, ![1, 8, 2048]⟩
abbrev S1x512 : Shape := ⟨2, ![1, 512]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 9
  | .vmem => 19
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x3x5632, .f32⟩
  | .hbm, ⟨3, _⟩ => ⟨S4x5632, .f32⟩
  | .hbm, ⟨4, _⟩ => ⟨S4x5632x2048, .f32⟩
  | .hbm, ⟨5, _⟩ => ⟨S8192x2048, .f32⟩
  | .hbm, ⟨6, _⟩ => ⟨S4x8x12288, .f32⟩
  | .hbm, ⟨7, _⟩ => ⟨S4x1x5632, .f32⟩
  | .hbm, ⟨8, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S1024x512, .bf16⟩
  | .local _ .vmem, ⟨7, _⟩ => ⟨S1024x512, .bf16⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x512x2048, .f32⟩
  | .local _ .vmem, ⟨13, _⟩ => ⟨S1x512x2048, .f32⟩
  | .local _ .vmem, ⟨14, _⟩ => ⟨S1024x2048, .f32⟩
  | .local _ .vmem, ⟨15, _⟩ => ⟨S1024x2048, .f32⟩
  | .local _ .vmem, ⟨16, _⟩ => ⟨S1x8x2048, .f32⟩
  | .local _ .vmem, ⟨17, _⟩ => ⟨S1024x2048, .f32⟩
  | .local _ .vmem, ⟨18, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32_23 : BitVec 32 := 0#32
  let v53 : BitVec 1 := Scalar.cmpi .eq arg1 c0_i32_23
  let v54 : BitVec 32 := Scalar.extui v53
  let c0_i32_24 : BitVec 32 := 0#32
  let v55 : BitVec 1 := Scalar.cmpi .ne v54 c0_i32_24
  v55

def k0_cond2 (i : grid0.Coords) : BitVec 1 :=
  let arg1 : BitVec 32 := BitVec.ofNat 32 (i 1).val
  let c0_i32_25 : BitVec 32 := 0#32
  let v56 : BitVec 1 := Scalar.cmpi .sgt arg1 c0_i32_25
  let v57 : BitVec 32 := Scalar.extui v56
  let c0_i32_26 : BitVec 32 := 0#32
  let v58 : BitVec 1 := Scalar.cmpi .ne v57 c0_i32_26
  v58

def k0_cond3 (i : grid0.Coords) : BitVec 1 :=
  let arg1 : BitVec 32 := BitVec.ofNat 32 (i 1).val
  let c10_i32 : BitVec 32 := 10#32
  let v59 : BitVec 1 := Scalar.cmpi .eq arg1 c10_i32
  let v60 : BitVec 32 := Scalar.extui v59
  let c0_i32_27 : BitVec 32 := 0#32
  let v61 : BitVec 1 := Scalar.cmpi .ne v60 c0_i32_27
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnDownRefIdeal.lean ====
abbrev S8192x5632 : Shape := ⟨2, ![8192, 5632]⟩
abbrev S4x3x5632 : Shape := ⟨3, ![4, 3, 5632]⟩
abbrev S4x5632 : Shape := ⟨2, ![4, 5632]⟩
abbrev S4x5632x2048 : Shape := ⟨3, ![4, 5632, 2048]⟩
abbrev S8192x2048 : Shape := ⟨2, ![8192, 2048]⟩
abbrev S4x8x12288 : Shape := ⟨3, ![4, 8, 12288]⟩
abbrev S1x1x12288 : Shape := ⟨3, ![1, 1, 12288]⟩
abbrev S12288 : Shape := ⟨1, ![12288]⟩
abbrev S2048 : Shape := ⟨1, ![2048]⟩
abbrev S1x3x5632 : Shape := ⟨3, ![1, 3, 5632]⟩
abbrev S3x5632 : Shape := ⟨2, ![3, 5632]⟩
abbrev S_ : Shape := ⟨0, ![]⟩
abbrev S8194x5632 : Shape := ⟨2, ![8194, 5632]⟩
abbrev S1x5632 : Shape := ⟨2, ![1, 5632]⟩
abbrev S5632 : Shape := ⟨1, ![5632]⟩
abbrev S1x5632x2048 : Shape := ⟨3, ![1, 5632, 2048]⟩
abbrev S5632x2048 : Shape := ⟨2, ![5632, 2048]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x3x5632, .f32⟩
  | .hbm, ⟨3, _⟩ => ⟨S4x5632, .f32⟩
  | .hbm, ⟨4, _⟩ => ⟨S4x5632x2048, .f32⟩
  | .hbm, ⟨5, _⟩ => ⟨S8192x2048, .f32⟩
  | .hbm, ⟨6, _⟩ => ⟨S4x8x12288, .f32⟩
  | .hbm, ⟨7, _⟩ => ⟨S1x1x12288, .f32⟩
  | .hbm, ⟨8, _⟩ => ⟨S12288, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S8192x5632, .f32⟩
  | .hbm, ⟨16, _⟩ => ⟨S1x3x5632, .f32⟩
  | .hbm, ⟨17, _⟩ => ⟨S3x5632, .f32⟩
  | .hbm, ⟨18, _⟩ => ⟨S_, .i32⟩
  | .hbm, ⟨19, _⟩ => ⟨S_, .f32⟩
  | .hbm, ⟨20, _⟩ => ⟨S8194x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S_, .f32⟩
  | .hbm, ⟨49, _⟩ => ⟨S8192x5632, .f32⟩
  | .hbm, ⟨50, _⟩ => ⟨S8192x5632, .f32⟩
  | .hbm, ⟨51, _⟩ => ⟨S_, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S1x5632x2048, .f32⟩
  | .hbm, ⟨58, _⟩ => ⟨S5632x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== ConvIn.lean ====
abbrev S8192x2048 : Shape := ⟨2, ![8192, 2048]⟩
abbrev S4x8x12288 : Shape := ⟨3, ![4, 8, 12288]⟩
abbrev S2x2048x6144 : Shape := ⟨3, ![2, 2048, 6144]⟩
abbrev S1024x2048 : Shape := ⟨2, ![1024, 2048]⟩
abbrev S1x8x2048 : Shape := ⟨3, ![1, 8, 2048]⟩
abbrev S1x2048x256 : Shape := ⟨3, ![1, 2048, 256]⟩
abbrev S1024x256 : Shape := ⟨2, ![1024, 256]⟩
abbrev S1024 : Shape := ⟨1, ![1024]⟩
abbrev S1024x1 : Shape := ⟨2, ![1024, 1]⟩
abbrev S1x1x2048 : Shape := ⟨3, ![1, 1, 2048]⟩
abbrev S1x2048 : Shape := ⟨2, ![1, 2048]⟩
abbrev S2048x256 : Shape := ⟨2, ![2048, 256]⟩

abbrev nBuf : Space → Nat
  | .hbm => 5
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S4x8x12288, .f32⟩
  | .hbm, ⟨2, _⟩ => ⟨S2x2048x6144, .f32⟩
  | .hbm, ⟨3, _⟩ => ⟨S8192x2048, .bf16⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvInRefIdeal.lean ====
abbrev S8192x2048 : Shape := ⟨2, ![8192, 2048]⟩
abbrev S4x8x12288 : Shape := ⟨3, ![4, 8, 12288]⟩
abbrev S2x2048x6144 : Shape := ⟨3, ![2, 2048, 6144]⟩
abbrev S1x1x12288 : Shape := ⟨3, ![1, 1, 12288]⟩
abbrev S12288 : Shape := ⟨1, ![12288]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x8x12288, .f32⟩
  | .hbm, ⟨2, _⟩ => ⟨S2x2048x6144, .f32⟩
  | .hbm, ⟨3, _⟩ => ⟨S1x1x12288, .f32⟩
  | .hbm, ⟨4, _⟩ => ⟨S12288, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048x6144, .f32⟩
  | .hbm, ⟨34, _⟩ => ⟨S2048x6144, .f32⟩
  | .hbm, ⟨35, _⟩ => ⟨S8192x6144, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | .hbm, ⟨40, _⟩ => ⟨S8192x2048, .f32⟩
  | .hbm, ⟨41, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== ConvOut.lean ====
abbrev S8192x2048 : Shape := ⟨2, ![8192, 2048]⟩
abbrev S2x3x2048 : Shape := ⟨3, ![2, 3, 2048]⟩
abbrev S2x2048x2048 : Shape := ⟨3, ![2, 2048, 2048]⟩
abbrev S4x8x12288 : Shape := ⟨3, ![4, 8, 12288]⟩
abbrev S1024x512 : Shape := ⟨2, ![1024, 512]⟩
abbrev S16x512 : Shape := ⟨2, ![16, 512]⟩
abbrev S1x3x512 : Shape := ⟨3, ![1, 3, 512]⟩
abbrev S1x512x2048 : Shape := ⟨3, ![1, 512, 2048]⟩
abbrev S1024x2048 : Shape := ⟨2, ![1024, 2048]⟩
abbrev S1x8x2048 : Shape := ⟨3, ![1, 8, 2048]⟩
abbrev S1x512 : Shape := ⟨2, ![1, 512]⟩
abbrev S1x1x512 : Shape := ⟨3, ![1, 1, 512]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x3x2048, .f32⟩
  | .hbm, ⟨3, _⟩ => ⟨S2x2048x2048, .f32⟩
  | .hbm, ⟨4, _⟩ => ⟨S8192x2048, .f32⟩
  | .hbm, ⟨5, _⟩ => ⟨S4x8x12288, .f32⟩
  | .hbm, ⟨6, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S1x3x512, .f32⟩
  | .local _ .vmem, ⟨9, _⟩ => ⟨S1x3x512, .f32⟩
  | .local _ .vmem, ⟨10, _⟩ => ⟨S1x512x2048, .f32⟩
  | .local _ .vmem, ⟨11, _⟩ => ⟨S1x512x2048, .f32⟩
  | .local _ .vmem, ⟨12, _⟩ => ⟨S1024x2048, .f32⟩
  | .local _ .vmem, ⟨13, _⟩ => ⟨S1024x2048, .f32⟩
  | .local _ .vmem, ⟨14, _⟩ => ⟨S1x8x2048, .f32⟩
  | .local _ .vmem, ⟨15, _⟩ => ⟨S1024x2048, .f32⟩
  | .local _ .vmem, ⟨16, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32_20 : BitVec 32 := 0#32
  let v47 : BitVec 1 := Scalar.cmpi .eq arg1 c0_i32_20
  let v48 : BitVec 32 := Scalar.extui v47
  let c0_i32_21 : BitVec 32 := 0#32
  let v49 : BitVec 1 := Scalar.cmpi .ne v48 c0_i32_21
  v49

def k0_cond2 (i : grid0.Coords) : BitVec 1 :=
  let arg1 : BitVec 32 := BitVec.ofNat 32 (i 1).val
  let c0_i32_22 : BitVec 32 := 0#32
  let v50 : BitVec 1 := Scalar.cmpi .sgt arg1 c0_i32_22
  let v51 : BitVec 32 := Scalar.extui v50
  let c0_i32_23 : BitVec 32 := 0#32
  let v52 : BitVec 1 := Scalar.cmpi .ne v51 c0_i32_23
  v52

def k0_cond3 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_24 : BitVec 32 := 0#32
  let v55 : BitVec 1 := Scalar.cmpi .ne v54 c0_i32_24
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c2_i32 : BitVec 32 := 2#32
  let c0_i32_0 : BitVec 32 := 0#32
  ![c1_i32.toNat, c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvOutRefIdeal.lean ====
abbrev S8192x2048 : Shape := ⟨2, ![8192, 2048]⟩
abbrev S2x3x2048 : Shape := ⟨3, ![2, 3, 2048]⟩
abbrev S2x2048x2048 : Shape := ⟨3, ![2, 2048, 2048]⟩
abbrev S4x8x12288 : Shape := ⟨3, ![4, 8, 12288]⟩
abbrev S1x1x12288 : Shape := ⟨3, ![1, 1, 12288]⟩
abbrev S12288 : Shape := ⟨1, ![12288]⟩
abbrev S2048 : Shape := ⟨1, ![2048]⟩
abbrev S1x3x2048 : Shape := ⟨3, ![1, 3, 2048]⟩
abbrev S3x2048 : Shape := ⟨2, ![3, 2048]⟩
abbrev S_ : Shape := ⟨0, ![]⟩
abbrev S8194x2048 : Shape := ⟨2, ![8194, 2048]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x3x2048, .f32⟩
  | .hbm, ⟨3, _⟩ => ⟨S2x2048x2048, .f32⟩
  | .hbm, ⟨4, _⟩ => ⟨S8192x2048, .f32⟩
  | .hbm, ⟨5, _⟩ => ⟨S4x8x12288, .f32⟩
  | .hbm, ⟨6, _⟩ => ⟨S1x1x12288, .f32⟩
  | .hbm, ⟨7, _⟩ => ⟨S12288, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S8192x2048, .f32⟩
  | .hbm, ⟨15, _⟩ => ⟨S8192x2048, .f32⟩
  | .hbm, ⟨16, _⟩ => ⟨S1x3x2048, .f32⟩
  | .hbm, ⟨17, _⟩ => ⟨S3x2048, .f32⟩
  | .hbm, ⟨18, _⟩ => ⟨S_, .i32⟩
  | .hbm, ⟨19, _⟩ => ⟨S_, .f32⟩
  | .hbm, ⟨20, _⟩ => ⟨S8194x2048, .f32⟩
  | .hbm, ⟨21, _⟩ => ⟨S8192x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x2048x2048, .f32⟩
  | .hbm, ⟨43, _⟩ => ⟨S2048x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== AttnOut.lean ====
abbrev S8192x2048 : Shape := ⟨2, ![8192, 2048]⟩
abbrev S2x2048x2048 : Shape := ⟨3, ![2, 2048, 2048]⟩
abbrev S4x8x12288 : Shape := ⟨3, ![4, 8, 12288]⟩
abbrev S1024x512 : Shape := ⟨2, ![1024, 512]⟩
abbrev S1x512x2048 : Shape := ⟨3, ![1, 512, 2048]⟩
abbrev S1024x2048 : Shape := ⟨2, ![1024, 2048]⟩
abbrev S1x8x2048 : Shape := ⟨3, ![1, 8, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x8x12288, .f32⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .f32⟩
  | .local _ .vmem, ⟨3, _⟩ => ⟨S1x512x2048, .f32⟩
  | .local _ .vmem, ⟨4, _⟩ => ⟨S1024x2048, .f32⟩
  | .local _ .vmem, ⟨5, _⟩ => ⟨S1024x2048, .f32⟩
  | .local _ .vmem, ⟨6, _⟩ => ⟨S1x8x2048, .f32⟩
  | .local _ .vmem, ⟨7, _⟩ => ⟨S1024x2048, .f32⟩
  | .local _ .vmem, ⟨8, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnOutRefIdeal.lean ====
abbrev S8192x2048 : Shape := ⟨2, ![8192, 2048]⟩
abbrev S2x2048x2048 : Shape := ⟨3, ![2, 2048, 2048]⟩
abbrev S4x8x12288 : Shape := ⟨3, ![4, 8, 12288]⟩
abbrev S1x1x12288 : Shape := ⟨3, ![1, 1, 12288]⟩
abbrev S12288 : Shape := ⟨1, ![12288]⟩
abbrev S2048 : Shape := ⟨1, ![2048]⟩
abbrev S1x2048x2048 : Shape := ⟨3, ![1, 2048, 2048]⟩
abbrev S2048x2048 : Shape := ⟨2, ![2048, 2048]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x8x12288, .f32⟩
  | .hbm, ⟨4, _⟩ => ⟨S1x1x12288, .f32⟩
  | .hbm, ⟨5, _⟩ => ⟨S12288, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S8192x2048, .f32⟩
  | .hbm, ⟨13, _⟩ => ⟨S1x2048x2048, .f32⟩
  | .hbm, ⟨14, _⟩ => ⟨S2048x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Qkv.lean ====
abbrev S8192x2048 : Shape := ⟨2, ![8192, 2048]⟩
abbrev S4x8x12288 : Shape := ⟨3, ![4, 8, 12288]⟩
abbrev S2x2048x3072 : Shape := ⟨3, ![2, 2048, 3072]⟩
abbrev S2x128 : Shape := ⟨2, ![2, 128]⟩
abbrev S1x128 : Shape := ⟨2, ![1, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x2x32 : Shape := ⟨3, ![8192, 2, 32]⟩
abbrev S8192x2x1x32 : Shape := ⟨4, ![8192, 2, 1, 32]⟩
abbrev S8192x2x2x32 : Shape := ⟨4, ![8192, 2, 2, 32]⟩
abbrev S8192x128 : Shape := ⟨2, ![8192, 128]⟩
abbrev S8192x3072 : Shape := ⟨2, ![8192, 3072]⟩
abbrev S1024x2048 : Shape := ⟨2, ![1024, 2048]⟩
abbrev S1x8x2048 : Shape := ⟨3, ![1, 8, 2048]⟩
abbrev S1x2048x512 : Shape := ⟨3, ![1, 2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1x1x2048 : Shape := ⟨3, ![1, 1, 2048]⟩
abbrev S1x2048 : Shape := ⟨2, ![1, 2048]⟩
abbrev S2048x512 : Shape := ⟨2, ![2048, 512]⟩

abbrev nBuf : Space → Nat
  | .hbm => 64
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x8x12288, .f32⟩
  | .hbm, ⟨2, _⟩ => ⟨S2x2048x3072, .f32⟩
  | .hbm, ⟨3, _⟩ => ⟨S2x128, .f32⟩
  | .hbm, ⟨4, _⟩ => ⟨S2x128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S2x128, .f32⟩
  | .hbm, ⟨12, _⟩ => ⟨S128, .i32⟩
  | .hbm, ⟨13, _⟩ => ⟨S128x64, .i32⟩
  | .hbm, ⟨14, _⟩ => ⟨S8192, .i32⟩
  | .hbm, ⟨15, _⟩ => ⟨S8192, .f32⟩
  | .hbm, ⟨16, _⟩ => ⟨S64, .i32⟩
  | .hbm, ⟨17, _⟩ => ⟨S1x64, .i32⟩
  | .hbm, ⟨18, _⟩ => ⟨S128x64, .i32⟩
  | .hbm, ⟨19, _⟩ => ⟨S8192, .i32⟩
  | .hbm, ⟨20, _⟩ => ⟨S8192, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x1x32, .f32⟩
  | .hbm, ⟨40, _⟩ => ⟨S8192x1x32, .f32⟩
  | .hbm, ⟨41, _⟩ => ⟨S8192x2x32, .f32⟩
  | .hbm, ⟨42, _⟩ => ⟨S8192x2x1x32, .f32⟩
  | .hbm, ⟨43, _⟩ => ⟨S8192x2x2x32, .f32⟩
  | .hbm, ⟨44, _⟩ => ⟨S8192x128, .f32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S8192x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | .hbm, ⟨63, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x512, .f32⟩
  | .local _ .vmem, ⟨5, _⟩ => ⟨S1x2048x512, .f32⟩
  | .local _ .vmem, ⟨6, _⟩ => ⟨S2x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_v40 : Ref sig .tc := ⟨.hbm, 48, rfl⟩
abbrev main_c_1 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c5_i32 : BitVec 32 := 5#32
  let v8 : BitVec 1 := Scalar.cmpi .slt arg1 c5_i32
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c5_i32_6 : BitVec 32 := 5#32
  let v11 : BitVec 1 := Scalar.cmpi .sge arg1 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvRefIdeal.lean ====
abbrev S8192x2048 : Shape := ⟨2, ![8192, 2048]⟩
abbrev S4x8x12288 : Shape := ⟨3, ![4, 8, 12288]⟩
abbrev S2x2048x3072 : Shape := ⟨3, ![2, 2048, 3072]⟩
abbrev S2x128 : Shape := ⟨2, ![2, 128]⟩
abbrev S1x1x12288 : Shape := ⟨3, ![1, 1, 12288]⟩
abbrev S12288 : Shape := ⟨1, ![12288]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S128 : Shape := ⟨1, ![128]⟩
abbrev S128x64 : Shape := ⟨2, ![128, 64]⟩
abbrev S64 : Shape := ⟨1, ![64]⟩
abbrev S1x64 : Shape := ⟨2, ![1, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x2x32 : Shape := ⟨3, ![8192, 2, 32]⟩
abbrev S8192x2x1x32 : Shape := ⟨4, ![8192, 2, 1, 32]⟩
abbrev S8192x2x2x32 : Shape := ⟨4, ![8192, 2, 2, 32]⟩
abbrev S8192x128 : Shape := ⟨2, ![8192, 128]⟩
abbrev S1x2048x3072 : Shape := ⟨3, ![1, 2048, 3072]⟩
abbrev S2048x3072 : Shape := ⟨2, ![2048, 3072]⟩
abbrev S2048x2048 : Shape := ⟨2, ![2048, 2048]⟩
abbrev S2048x1024 : Shape := ⟨2, ![2048, 1024]⟩
abbrev S1x128 : Shape := ⟨2, ![1, 128]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩
abbrev S8192x16x2x2x32 : Shape := ⟨5, ![8192, 16, 2, 2, 32]⟩
abbrev S8192x16x2x1x32 : Shape := ⟨5, ![8192, 16, 2, 1, 32]⟩
abbrev S8192x16x2x32 : Shape := ⟨4, ![8192, 16, 2, 32]⟩
abbrev S8192x1x128 : Shape := ⟨3, ![8192, 1, 128]⟩
abbrev S8192x1024 : Shape := ⟨2, ![8192, 1024]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S8192x4x2x2x32 : Shape := ⟨5, ![8192, 4, 2, 2, 32]⟩
abbrev S8192x4x2x1x32 : Shape := ⟨5, ![8192, 4, 2, 1, 32]⟩
abbrev S8192x4x2x32 : Shape := ⟨4, ![8192, 4, 2, 32]⟩
abbrev S8192x3072 : Shape := ⟨2, ![8192, 3072]⟩

abbrev nBuf : Space → Nat
  | .hbm => 156
  | .vmem => 0
  | .smem => 0
  | _ => 0

abbrev hbmTy0_0 (i : Nat) : BufTy := match i % 128 with
  | 0 => ⟨S8192x2048, .f32⟩
  | 1 => ⟨S4x8x12288, .f32⟩
  | 2 => ⟨S2x2048x3072, .f32⟩
  | 3 => ⟨S2x128, .f32⟩
  | 4 => ⟨S2x128, .f32⟩
  | 5 => ⟨S1x1x12288, .f32⟩
  | 6 => ⟨S12288, .f32⟩
  | 7 => ⟨S2048, .f32⟩
  | 8 => ⟨S2048, .f32⟩
  | 9 => ⟨S2048, .f32⟩
  | 10 => ⟨S2048, .f32⟩
  | 11 => ⟨S2048, .f32⟩
  | 12 => ⟨S2048, .f32⟩
  | 13 => ⟨S8192x2048, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x2048, .f32⟩
  | 25 => ⟨S8192x2048, .f32⟩
  | 26 => ⟨S_, .f32⟩
  | 27 => ⟨S2048, .f32⟩
  | 28 => ⟨S2048, .f32⟩
  | 29 => ⟨S1x2048, .f32⟩
  | 30 => ⟨S8192x2048, .f32⟩
  | 31 => ⟨S8192x2048, .f32⟩
  | 32 => ⟨S1x2048, .f32⟩
  | 33 => ⟨S8192x2048, .f32⟩
  | 34 => ⟨S8192x2048, .f32⟩
  | 35 => ⟨S128, .i32⟩
  | 36 => ⟨S128x64, .i32⟩
  | 37 => ⟨S8192, .i32⟩
  | 38 => ⟨S8192, .f32⟩
  | 39 => ⟨S64, .i32⟩
  | 40 => ⟨S1x64, .i32⟩
  | 41 => ⟨S128x64, .i32⟩
  | 42 => ⟨S8192, .i32⟩
  | 43 => ⟨S8192, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192x1, .f32⟩
  | 53 => ⟨S1x32, .f32⟩
  | 54 => ⟨S8192x32, .f32⟩
  | 55 => ⟨S8192x32, .f32⟩
  | 56 => ⟨S8192x32, .f32⟩
  | 57 => ⟨S8192x1, .f32⟩
  | 58 => ⟨S1x32, .f32⟩
  | 59 => ⟨S8192x32, .f32⟩
  | 60 => ⟨S8192x32, .f32⟩
  | 61 => ⟨S8192x32, .f32⟩
  | 62 => ⟨S8192x1x32, .f32⟩
  | 63 => ⟨S8192x1x32, .f32⟩
  | 64 => ⟨S8192x2x32, .f32⟩
  | 65 => ⟨S8192x2x1x32, .f32⟩
  | 66 => ⟨S8192x2x2x32, .f32⟩
  | 67 => ⟨S8192x128, .f32⟩
  | 68 => ⟨S8192x128, .f32⟩
  | 69 => ⟨S8192x128, .f32⟩
  | 70 => ⟨S1x2048x3072, .f32⟩
  | 71 => ⟨S2048x3072, .f32⟩
  | 72 => ⟨S2048x2048, .f32⟩
  | 73 => ⟨S1x2048x3072, .f32⟩
  | 74 => ⟨S2048x3072, .f32⟩
  | 75 => ⟨S2048x1024, .f32⟩
  | 76 => ⟨S1x128, .f32⟩
  | 77 => ⟨S128, .f32⟩
  | 78 => ⟨S8192x2048, .f32⟩
  | 79 => ⟨S8192x16x128, .f32⟩
  | 80 => ⟨S8192x16x128, .f32⟩
  | 81 => ⟨S_, .f32⟩
  | 82 => ⟨S8192x16, .f32⟩
  | 83 => ⟨S8192x16x1, .f32⟩
  | 84 => ⟨S_, .f32⟩
  | 85 => ⟨S8192x16x1, .f32⟩
  | 86 => ⟨S8192x16x1, .f32⟩
  | 87 => ⟨S_, .f32⟩
  | 88 => ⟨S8192x16x1, .f32⟩
  | 89 => ⟨S8192x16x1, .f32⟩
  | 90 => ⟨S8192x16x1, .f32⟩
  | 91 => ⟨S8192x16x128, .f32⟩
  | 92 => ⟨S8192x16x128, .f32⟩
  | 93 => ⟨S1x1x128, .f32⟩
  | 94 => ⟨S8192x16x128, .f32⟩
  | 95 => ⟨S8192x16x128, .f32⟩
  | 96 => ⟨S8192x16x2x2x32, .f32⟩
  | 97 => ⟨S8192x16x2x1x32, .f32⟩
  | 98 => ⟨S8192x16x2x32, .f32⟩
  | 99 => ⟨S8192x16x2x32, .f32⟩
  | 100 => ⟨S8192x16x2x1x32, .f32⟩
  | 101 => ⟨S8192x16x2x32, .f32⟩
  | 102 => ⟨S8192x16x2x1x32, .f32⟩
  | 103 => ⟨S8192x16x2x1x32, .f32⟩
  | 104 => ⟨S8192x16x2x2x32, .f32⟩
  | 105 => ⟨S8192x16x128, .f32⟩
  | 106 => ⟨S8192x1x128, .f32⟩
  | 107 => ⟨S8192x16x128, .f32⟩
  | 108 => ⟨S8192x16x128, .f32⟩
  | 109 => ⟨S8192x1x128, .f32⟩
  | 110 => ⟨S8192x16x128, .f32⟩
  | 111 => ⟨S8192x16x128, .f32⟩
  | 112 => ⟨S8192x16x128, .f32⟩
  | 113 => ⟨S1x128, .f32⟩
  | 114 => ⟨S128, .f32⟩
  | 115 => ⟨S8192x1024, .f32⟩
  | 116 => ⟨S8192x512, .f32⟩
  | 117 => ⟨S8192x512, .f32⟩
  | 118 => ⟨S8192x4x128, .f32⟩
  | 119 => ⟨S8192x4x128, .f32⟩
  | 120 => ⟨S_, .f32⟩
  | 121 => ⟨S8192x4, .f32⟩
  | 122 => ⟨S8192x4x1, .f32⟩
  | 123 => ⟨S_, .f32⟩
  | 124 => ⟨S8192x4x1, .f32⟩
  | 125 => ⟨S8192x4x1, .f32⟩
  | 126 => ⟨S_, .f32⟩
  | 127 => ⟨S8192x4x1, .f32⟩
  | _ => ⟨S8192x2048, .f32⟩

abbrev hbmTy0_1 (i : Nat) : BufTy := match i % 128 with
  | 0 => ⟨S8192x4x1, .f32⟩
  | 1 => ⟨S8192x4x1, .f32⟩
  | 2 => ⟨S8192x4x128, .f32⟩
  | 3 => ⟨S8192x4x128, .f32⟩
  | 4 => ⟨S1x1x128, .f32⟩
  | 5 => ⟨S8192x4x128, .f32⟩
  | 6 => ⟨S8192x4x128, .f32⟩
  | 7 => ⟨S8192x4x2x2x32, .f32⟩
  | 8 => ⟨S8192x4x2x1x32, .f32⟩
  | 9 => ⟨S8192x4x2x32, .f32⟩
  | 10 => ⟨S8192x4x2x32, .f32⟩
  | 11 => ⟨S8192x4x2x1x32, .f32⟩
  | 12 => ⟨S8192x4x2x32, .f32⟩
  | 13 => ⟨S8192x4x2x1x32, .f32⟩
  | 14 => ⟨S8192x4x2x1x32, .f32⟩
  | 15 => ⟨S8192x4x2x2x32, .f32⟩
  | 16 => ⟨S8192x4x128, .f32⟩
  | 17 => ⟨S8192x1x128, .f32⟩
  | 18 => ⟨S8192x4x128, .f32⟩
  | 19 => ⟨S8192x4x128, .f32⟩
  | 20 => ⟨S8192x1x128, .f32⟩
  | 21 => ⟨S8192x4x128, .f32⟩
  | 22 => ⟨S8192x4x128, .f32⟩
  | 23 => ⟨S8192x4x128, .f32⟩
  | 24 => ⟨S8192x2048, .f32⟩
  | 25 => ⟨S8192x512, .f32⟩
  | 26 => ⟨S8192x3072, .f32⟩
  | 27 => ⟨S8192x3072, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_cst_6 : Ref sig .tc := ⟨.hbm, 84, rfl⟩
abbrev main_v72 : Ref sig .tc := ⟨.hbm, 85, rfl⟩
abbrev main_v73 : Ref sig .tc := ⟨.hbm, 86, rfl⟩
abbrev main_cst_7 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_v106 : Ref sig .tc := ⟨.hbm, 121, rfl⟩
abbrev main_v107 : Ref sig .tc := ⟨.hbm, 122, rfl⟩
abbrev main_cst_9 : Ref sig .tc := ⟨.hbm, 123, rfl⟩
abbrev main_v108 : Ref sig .tc := ⟨.hbm, 124, rfl⟩
abbrev main_v109 : Ref sig .tc := ⟨.hbm, 125, rfl⟩
abbrev main_cst_10 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩

abbrev nD : Nat := 1
abbrev τ : Topo := Topo.v7x

variable {F : FTy → Type} [FloatOps F]
-- ==== Proof.Softmax.lean ====
/- A softmax with a sink over a longer list of keys, of which some are masked to −∞, is the softmax over the keys that are
   left; and a division of a sum by the denominator is the sum of the divisions. -/
module

public import Idealize.ShloMosaic.Lib.Pipeline.ValueKit
public import Idealize.ShloMosaic.Lib.Pointwise

@[expose] public section

noncomputable section

open Idealize.ShloMosaic

namespace Cert.Softmax

/-- The softmax's shift: the largest score, the sink among them. -/
def top {n : ℕ} (s : Fin n → EReal) (snk : EReal) : EReal := max (Finset.fold max ⊥ s Finset.univ) snk

/-- The softmax's denominator: the shifted scores' exponentials, and the sink's. -/
def den {n : ℕ} (s : Fin n → EReal) (snk : EReal) : EReal :=
  ∑ x, Ideal.exp (s x - top s snk) + Ideal.exp (snk - top s snk)

theorem exp_nonneg (x : EReal) : 0 ≤ Ideal.exp x := by
  induction x with
  | bot => simp
  | top => simp
  | coe r => simp only [Ideal.exp_coe]; exact_mod_cast (Real.exp_pos r).le

theorem exp_pos (x : EReal) (h : x ≠ ⊥) : 0 < Ideal.exp x := by
  induction x with
  | bot => exact absurd rfl h
  | top => simp
  | coe r => simp only [Ideal.exp_coe]; exact_mod_cast Real.exp_pos r

/-- A masked key's exponential is zero, whatever the shift. -/
theorem exp_masked (M : EReal) : Ideal.exp (⊥ - M) = 0 := by
  rw [EReal.bot_sub]
  rfl

theorem top_ne_top {n : ℕ} (s : Fin n → EReal) (snk : EReal) (hs : ∀ x, s x ≠ ⊤) (hk : snk ≠ ⊤) : top s snk ≠ ⊤ := by
  unfold top
  have h : Finset.fold max ⊥ s Finset.univ < ⊤ :=
    (Finset.fold_max_lt (s := Finset.univ) (f := s) (b := ⊥) (c := ⊤)).mpr ⟨bot_lt_top, fun x _ => lt_top_iff_ne_top.mpr (hs x)⟩
  exact (max_lt h (lt_top_iff_ne_top.mpr hk)).ne

theorem den_pos {n : ℕ} (s : Fin n → EReal) (snk : EReal) (hs : ∀ x, s x ≠ ⊤) (hk : snk ≠ ⊤) (hk' : snk ≠ ⊥) :
    0 < den s snk := by
  unfold den
  have h1 : 0 ≤ ∑ x, Ideal.exp (s x - top s snk) := Finset.sum_nonneg fun x _ => exp_nonneg _
  have h2 : 0 < Ideal.exp (snk - top s snk) := by
    apply exp_pos
    have hM := top_ne_top s snk hs hk
    generalize top s snk = M at hM
    lift snk to ℝ using ⟨hk, hk'⟩
    induction M with
    | bot => rw [EReal.coe_sub_bot]; exact top_ne_bot
    | top => exact absurd rfl hM
    | coe r => rw [← EReal.coe_sub]; exact EReal.coe_ne_bot _
  calc (0 : EReal) < Ideal.exp (snk - top s snk) := h2
    _ = 0 + Ideal.exp (snk - top s snk) := (zero_add _).symm
    _ ≤ _ := add_le_add h1 le_rfl

/-- A sum divided by a positive number is the sum of the quotients. -/
theorem sum_div {ι : Type} [Fintype ι] (f : ι → EReal) (D : EReal) (hD : 0 < D) :
    Ideal.div (∑ x, f x) D = ∑ x, Ideal.div (f x) D := by
  have hd : ∀ y, Ideal.div y D = D⁻¹ * y := fun y => by
    unfold Ideal.div
    rw [if_neg hD.ne', mul_comm]
  simp only [hd]
  have h0 : 0 ≤ D⁻¹ := EReal.inv_nonneg_of_nonneg hD.le
  have ht : D⁻¹ ≠ ⊤ := by
    induction D with
    | bot => simp
    | top => simp
    | coe r => rw [← EReal.coe_inv]; exact EReal.coe_ne_top _
  classical
  refine Finset.induction_on (motive := fun S => D⁻¹ * ∑ x ∈ S, f x = ∑ x ∈ S, D⁻¹ * f x) Finset.univ (by simp) ?_
  intro a S ha ih
  rw [Finset.sum_insert ha, Finset.sum_insert ha, EReal.left_distrib_of_nonneg_of_ne_top h0 ht, ih]

theorem div_mul_right (a b D : EReal) (hD : 0 < D) : Ideal.div (a * b) D = b * Ideal.div a D := by
  unfold Ideal.div
  rw [if_neg hD.ne', if_neg hD.ne', mul_comm a b, mul_assoc]

variable {N n : ℕ} (φ : Fin n → Fin N) (hφ : Function.Injective φ) (s : Fin N → EReal) (s' : Fin n → EReal)
  (hin : ∀ c, s (φ c) = s' c) (hout : ∀ x, x ∉ Set.range φ → s x = ⊥)

include hin hout in
/-- The keys left have the same largest score. -/
theorem top_eq (snk : EReal) : top s snk = top s' snk := by
  unfold top
  congr 1
  apply le_antisymm
  · refine (Finset.fold_max_le (s := Finset.univ) (f := s) (b := ⊥) _).mpr ⟨bot_le, fun x _ => ?_⟩
    by_cases hx : x ∈ Set.range φ
    · obtain ⟨c, rfl⟩ := hx
      rw [hin]
      exact (Finset.le_fold_max (s := Finset.univ) (f := s') (b := ⊥) _).mpr (.inr ⟨c, Finset.mem_univ _, le_rfl⟩)
    · rw [hout x hx]
      exact bot_le
  · refine (Finset.fold_max_le (s := Finset.univ) (f := s') (b := ⊥) _).mpr ⟨bot_le, fun c _ => ?_⟩
    rw [← hin]
    exact (Finset.le_fold_max (s := Finset.univ) (f := s) (b := ⊥) _).mpr (.inr ⟨φ c, Finset.mem_univ _, le_rfl⟩)

include hφ hin hout in
/-- The keys left have the same denominator. -/
theorem den_eq (snk : EReal) : den s snk = den s' snk := by
  unfold den
  rw [top_eq φ s s' hin hout snk]
  congr 1
  symm
  refine Fintype.sum_of_injective φ hφ _ _ (fun x hx => ?_) fun c => ?_
  · rw [hout x hx, exp_masked]
  · rw [hin]

include hφ hin hout in
/-- Attention over the longer list, its sum divided once at the end, is attention over the keys left with normalized
    weights: the values need only agree where the score is not masked. -/
theorem attend (v : Fin N → EReal) (v' : Fin n → EReal) (hv : ∀ c, s' c = ⊥ ∨ v (φ c) = v' c) (snk : EReal)
    (hs : ∀ x, s' x ≠ ⊤) (hk : snk ≠ ⊤) (hk' : snk ≠ ⊥) :
    Ideal.div (∑ x, Ideal.exp (s x - top s snk) * v x) (den s snk)
      = ∑ c, v' c * Ideal.div (Ideal.exp (s' c - top s' snk)) (den s' snk) := by
  rw [den_eq φ hφ s s' hin hout snk, top_eq φ s s' hin hout snk]
  have hD := den_pos s' snk hs hk hk'
  rw [sum_div _ _ hD]
  symm
  refine Fintype.sum_of_injective φ hφ _ _ (fun x hx => ?_) fun c => ?_
  · rw [hout x hx, exp_masked, zero_mul]
    unfold Ideal.div
    rw [if_neg hD.ne', zero_mul]
  · rw [hin, div_mul_right _ _ _ hD]
    rcases hv c with h | h
    · rw [h, exp_masked]
      unfold Ideal.div
      rw [if_neg hD.ne', zero_mul, mul_zero, mul_zero]
    · rw [h]

/-- Neither infinity. -/
def Fin' (x : EReal) : Prop := x ≠ ⊥ ∧ x ≠ ⊤

theorem fin_mul {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

theorem fin_add {x y : EReal} (hx : Fin' x) (hy : Fin' y) : Fin' (x + y) := by
  lift x to ℝ using ⟨hx.2, hx.1⟩
  lift y to ℝ using ⟨hy.2, hy.1⟩
  rw [← EReal.coe_add]
  exact ⟨EReal.coe_ne_bot _, EReal.coe_ne_top _⟩

theorem fin_zero : Fin' 0 := ⟨EReal.zero_ne_bot, EReal.zero_ne_top⟩

theorem fin_sum {ι : Type} [Fintype ι] (f : ι → EReal) (hf : ∀ x, Fin' (f x)) : Fin' (∑ x, f x) :=
  Finset.sum_induction f Fin' (fun _ _ => fin_add) fin_zero fun x _ => hf x

/-- The scale is a number. -/
theorem fin_scale : Fin' (Ideal.ofBits .f32 0x3DB504F3#32) := by
  have h : ∃ r : ℝ, Ideal.ofBits .f32 0x3DB504F3#32 = (r : EReal) :=
    ⟨11863283 * (2 ^ 27 : ℝ)⁻¹, by simp [Ideal.ofBits, Ideal.ieee]⟩
  obtain ⟨r, h⟩ := h
  rw [h]
  exact ⟨EReal.coe_ne_bot _, EReal.coe_ne_top _⟩

theorem neg_inf : Ideal.ofBits .f32 0xFF800000#32 = ⊥ := by
  simp [Ideal.ofBits, Ideal.ieee]

end Cert.Softmax
-- ==== Proof.Finite.lean ====
/- What the attention's precondition says: every entry of the projected rows, of the context's keys and values, and of
the sinks is a finite number. -/
module

public import proofs.«01_k».proof.Defs
public import proofs.«01_k».proof.Proof.Softmax
public import Idealize.ShloMosaic.Lib.Claim
public import Idealize.ShloMosaic.Lib.Affine
public import Idealize.ShloMosaic.Lib.ReduceAll

@[expose] public section

noncomputable section

open Idealize.ShloMosaic Idealize.ShloMosaic.TcCoe Idealize.SL.Sem

namespace Cert.Finite

open Cert.Pre_finite Cert.Softmax

/-- The shape facts the precondition's program states. -/
theorem facts : Cert.Pre_finite.Facts where
  bitsLt_bf16_f32 := by decide
  bcast_S_S8192x3072 := by decide
  reducesTo_S8192x3072_S_d0_1 := by decide
  h_S_ := by decide
  bcast_S_S256x3072 := by decide
  reducesTo_S256x3072_S_d0_1 := by decide
  bcast_S_S16 := by decide
  reducesTo_S16_S_d0 := by decide

instance : Cert.Pre_finite.Facts := facts

instance : Subsingleton S_.Idx := ⟨fun a b => funext fun x => x.elim0⟩

/-- The pattern the precondition compares with is +∞. -/
theorem pos_inf : Ideal.ofBits .f32 0x7F800000#32 = ⊤ := by
  simp [Ideal.ofBits, Ideal.ieee]

/-- A number whose absolute value is below +∞ is finite. -/
theorem fin_of_abs {x : EReal} (h : BitVec.ofBool (decide (max x (-x) < Ideal.ofBits .f32 0x7F800000#32)) = 1#1) : Fin' x := by
  rw [pos_inf] at h
  have h' : max x (-x) < ⊤ := by
    by_contra hc
    rw [decide_eq_false hc] at h
    exact absurd h (by decide)
  have := max_lt_iff.mp h'
  refine ⟨fun e => ?_, fun e => ?_⟩
  · rw [e] at this
    exact absurd this.2 (by simp)
  · rw [e] at this
    exact absurd this.1 (by simp)

/-- The precondition, read back at every entry. -/
theorem all_finite (x0 : FVec Ideal S8192x3072 .bf16) (x1 : FVec Ideal S256x3072 .bf16) (x2 : FVec Ideal S16 .f32)
    (h : fn (F := Ideal) x0 x1 x2 = fun _ => 1#1) : (∀ j, Fin' (x0 j)) ∧ (∀ j, Fin' (x1 j)) ∧ (∀ j, Fin' (x2 j)) := by
  have h0 := congrFun h (Shape.Idx.first Facts.h_S_)
  unfold fn at h0
  obtain ⟨h01, h2⟩ := IntOp.andi_eq_one.mp h0
  obtain ⟨h00, h1⟩ := IntOp.andi_eq_one.mp h01
  exact ⟨fun j => fin_of_abs (Host.reduce_andi_all _ _ _ _ _ h00 j), fun j => fin_of_abs (Host.reduce_andi_all _ _ _ _ _ h1 j),
    fun j => fin_of_abs (Host.reduce_andi_all _ _ _ _ _ h2 j)⟩

end Cert.Finite
-- ==== Proof.AttnRef.lean ====
/- The banded attention's reference, read at an index: the softmax over 640 keys and a sink, times the values. -/
module

public import proofs.«01_k».proof.Defs
public import proofs.«01_k».proof.Proof.Gen.ReferenceIdeal.Read
public import proofs.«01_k».proof.Proof.Softmax
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnRef
open Cert.ReferenceIdeal Cert.ReferenceIdeal.Read Cert.Softmax

variable (x0 : FVec Ideal S8192x3072 .bf16) (x1 : FVec Ideal S256x3072 .bf16) (x2 : FVec Ideal S16 .f32)

/-- The column of `qkv` that holds coordinate `d` of query head `4 h + g`. -/
def qcol (h g : Fin 4) (d : Fin 128) : Fin 3072 := ⟨h.val * 512 + g.val * 128 + d.val, by omega⟩
/-- The column of `qkv` that holds coordinate `d` of key head `h`. -/
def kcol (h : Fin 4) (d : Fin 128) : Fin 3072 := ⟨2048 + (h.val * 128 + d.val), by omega⟩
/-- The column of `qkv` that holds coordinate `d` of value head `h`. -/
def vcol (h : Fin 4) (d : Fin 128) : Fin 3072 := ⟨2560 + (h.val * 128 + d.val), by omega⟩

/-- Row `p` of one column of `qkv` once 128 zero rows have been laid on either side of it. -/
def band (o : Fin 3072) (p : ℕ) : EReal := if hp : 128 ≤ p ∧ p - 128 < 8192 then x0 (ix2 ⟨p - 128, hp.2⟩ o) else 0

/-- The band: query `qi` of block `nb` sees key `kk` of the three blocks around it. -/
def Seen (nb qi kk : ℕ) : Prop := qi ≤ kk ∧ kk ≤ qi + 256 ∧ 128 ≤ nb * 128 + kk ∧ nb * 128 + kk < 8320

instance (nb qi kk : ℕ) : Decidable (Seen nb qi kk) := by unfold Seen; infer_instance

/-- The query's row of `qkv`. -/
def qrow (nb : Fin 64) (qi : Fin 128) : Fin 8192 := ⟨nb.val * 128 + qi.val, by omega⟩

/-- The word `0x3DB504F3` as a real: the scale both sides multiply scores by. -/
def scale : EReal := Ideal.ofBits .f32 0x3DB504F3#32

/-- A query's score on the 640 keys the reference lays out for it: 384 keys of three blocks (−∞ outside the
band), then the 256 context keys. -/
def score (h g : Fin 4) (nb : Fin 64) (qi : Fin 128) (c : Fin 640) : EReal :=
  if hc : c.val < 384 then
    if Seen nb.val qi.val c.val then
      (∑ d : Fin 128, band x0 (kcol h d) (nb.val * 128 + c.val) * x0 (ix2 (qrow nb qi) (qcol h g d))) * scale
    else ⊥
  else (∑ d : Fin 128, x1 (ix2 (⟨c.val - 384, by omega⟩ : Fin 256) (kcol h d)) * x0 (ix2 (qrow nb qi) (qcol h g d))) * scale

/-- The value rows that stand beside those 640 keys. -/
def value (h : Fin 4) (nb : Fin 64) (d : Fin 128) (c : Fin 640) : EReal :=
  if hc : c.val < 384 then band x0 (vcol h d) (nb.val * 128 + c.val)
  else x1 (ix2 (⟨c.val - 384, by omega⟩ : Fin 256) (vcol h d))

/-- The head's sink logit. -/
def snk (h g : Fin 4) : EReal := x2 (ix1 (⟨h.val * 4 + g.val, by omega⟩ : Fin 16))

/-- The keys with 128 zero rows on either side, in blocks of 128. -/
theorem pad_at (nb : Fin 66) (kk : Fin 128) (h : Fin 4) (d : Fin 128) :
   val_main_v43 (F := Ideal) x0 (ix4 nb kk h d) = band x0 (kcol h d) (nb.val * 128 + kk.val) := by
  pointwise [val_main_v43, val_main_v42, val_main_v41, val_main_v3, val_main_v0]
  unfold band kcol
  refine dite_congr rfl (fun _ => rfl) (fun _ => ?_)
  show FloatOps.sitofp (F := Ideal) .f32 0#32 = 0
  show ((((0#32).toInt : ℝ)) : EReal) = 0
  simp

/-- The 384 keys laid out for a block of queries: three neighbouring blocks of the padded keys. -/
theorem key_at (nb : Fin 64) (kk : Fin 384) (h : Fin 4) (d : Fin 128) :
   val_main_v50 (F := Ideal) x0 (ix4 nb kk h d) = band x0 (kcol h d) (nb.val * 128 + kk.val) := by
  pointwise [val_main_v50, val_main_v49, val_main_v48, val_main_v47]
  split
  · exact pad_at x0 _ _ _ _
  · split
    · refine (pad_at x0 _ _ _ _).trans (congrArg _ ?_)
      show (1 + nb.val) * 128 + (kk.val - 128) = _
      omega
    · refine (pad_at x0 _ _ _ _).trans (congrArg _ ?_)
      show (2 + nb.val) * 128 + (kk.val - 128 - 128) = _
      omega

/-- The values with 128 zero rows on either side, in blocks of 128. -/
theorem vpad_at (nb : Fin 66) (kk : Fin 128) (h : Fin 4) (d : Fin 128) :
   val_main_v46 (F := Ideal) x0 (ix4 nb kk h d) = band x0 (vcol h d) (nb.val * 128 + kk.val) := by
  pointwise [val_main_v46, val_main_v45, val_main_v44, val_main_v4, val_main_v0]
  unfold band vcol
  refine dite_congr rfl (fun _ => rfl) (fun _ => ?_)
  show FloatOps.sitofp (F := Ideal) .f32 0#32 = 0
  show ((((0#32).toInt : ℝ)) : EReal) = 0
  simp

/-- The 384 values laid out for a block of queries. -/
theorem val_at (nb : Fin 64) (kk : Fin 384) (h : Fin 4) (d : Fin 128) :
   val_main_v54 (F := Ideal) x0 (ix4 nb kk h d) = band x0 (vcol h d) (nb.val * 128 + kk.val) := by
  pointwise [val_main_v54, val_main_v53, val_main_v52, val_main_v51]
  split
  · exact vpad_at x0 _ _ _ _
  · split
    · refine (vpad_at x0 _ _ _ _).trans (congrArg _ ?_)
      show (1 + nb.val) * 128 + (kk.val - 128) = _
      omega
    · refine (vpad_at x0 _ _ _ _).trans (congrArg _ ?_)
      show (2 + nb.val) * 128 + (kk.val - 128 - 128) = _
      omega

/-- The queries, by block, row in the block, key head, head in the group and coordinate. -/
theorem q_at (nb : Fin 64) (qi : Fin 128) (h g : Fin 4) (d : Fin 128) :
   val_main_v40 (F := Ideal) x0 (ix5 nb qi h g d) = x0 (ix2 (qrow nb qi) (qcol h g d)) := by
  pointwise [val_main_v40, val_main_v2, val_main_v0]
  rfl

/-- The band's comparison on words: the distance of query and key is at most 128. -/
theorem rel_word (qi : Fin 128) (kk : Fin 384) :
    IntOp.cmpi CmpIPredicate.sle (IntOp.absi (IntOp.addi (IntOp.subi (BitVec.ofNat 32 qi.val) (BitVec.ofNat 32 kk.val)) 128#32)) 128#32
      = BitVec.ofBool (decide (qi.val ≤ kk.val ∧ kk.val ≤ qi.val + 256)) := by
  have hw : ∀ p : Fin 512, IntOp.cmpi CmpIPredicate.sle (IntOp.absi (BitVec.ofNat 32 p.val - 256#32)) 128#32
      = BitVec.ofBool (decide (128 ≤ p.val ∧ p.val ≤ 384)) := by decide +kernel
  have e : IntOp.addi (IntOp.subi (BitVec.ofNat 32 qi.val) (BitVec.ofNat 32 kk.val)) 128#32
      = BitVec.ofNat 32 (qi.val + 384 - kk.val) - 256#32 := by
    show BitVec.ofNat 32 qi.val - BitVec.ofNat 32 kk.val + 128#32 = _
    bv_omega
  rw [e, hw ⟨qi.val + 384 - kk.val, by omega⟩]
  congr 1
  refine decide_eq_decide.mpr ?_
  dsimp only
  omega

/-- The key's position, as a word, is its padded row less 128. -/
theorem key_word (nb : Fin 64) (kk : Fin 384) :
    IntOp.addi (IntOp.subi (IntOp.muli (BitVec.ofNat 32 nb.val) 128#32) 128#32) (BitVec.ofNat 32 kk.val)
      = BitVec.ofNat 32 (nb.val * 128 + kk.val) - 128#32 := by
  show BitVec.ofNat 32 nb.val * 128#32 - 128#32 + BitVec.ofNat 32 kk.val = _
  bv_omega

/-- The position is not negative when the padded row is 128 or more. -/
theorem low_word : ∀ p : Fin 8960, IntOp.cmpi CmpIPredicate.sge (BitVec.ofNat 32 p.val - 128#32) 0#32
      = BitVec.ofBool (decide (128 ≤ p.val)) := by decide +kernel

/-- The position is below 8192 when the padded row is below 8320. -/
theorem high_word : ∀ p : Fin 8960, IntOp.cmpi CmpIPredicate.slt (BitVec.ofNat 32 p.val - 128#32) 8192#32
      = BitVec.ofBool (decide (p.val < 8320)) := by decide +kernel

/-- The reference's mask is the band. -/
theorem mask_at (nb : Fin 64) (qi : Fin 128) (kk : Fin 384) :
   val_main_v38 (F := Ideal) (ix3 nb qi kk) = BitVec.ofBool (Seen nb.val qi.val kk.val) := by
  pointwise [val_main_v38,val_main_v37,val_main_v36,val_main_v35,val_main_v34,val_main_v33,val_main_v32,val_main_v31,val_main_v30,val_main_v29,val_main_v28,val_main_v27,val_main_v26,val_main_v25,val_main_v24,val_main_v23,val_main_v22,val_main_v21,val_main_v20,val_main_v19,val_main_v18,val_main_v17,val_main_v16,val_main_v15,val_main_v14,val_main_v13,val_main_v12,val_main_v11,val_main_v10,val_main_v9,val_main_c,val_main_c_0,val_main_c_1,val_main_c_2,val_main_c_3,val_main_c_4]
  rw [rel_word, key_word, low_word ⟨nb.val * 128 + kk.val, by omega⟩, high_word ⟨nb.val * 128 + kk.val, by omega⟩]
  unfold Seen
  by_cases a : qi.val ≤ kk.val <;> by_cases a' : kk.val ≤ qi.val + 256 <;> by_cases b : 128 ≤ nb.val * 128 + kk.val <;>
    by_cases c : nb.val * 128 + kk.val < 8320 <;> simp [a, a', b, c, IntOp.andi]

/-- The scaled scores on the 384 laid-out keys. -/
theorem loc_at (nb : Fin 64) (qi : Fin 128) (h g : Fin 4) (kk : Fin 384) :
   val_main_v58 (F := Ideal) x0 (ix5 h g nb qi kk) =
    (∑ d : Fin 128, band x0 (kcol h d) (nb.val * 128 + kk.val) * x0 (ix2 (qrow nb qi) (qcol h g d))) * scale := by
  rw [val_main_v58_apply, val_main_v56_apply, val_main_v55_apply]
  refine Ideal.mul_congr (Fin.sum_fin_congr fun d => ?_) rfl
  refine Ideal.mul_congr ?_ ?_
  · refine (congrArg (val_main_v50 (F := Ideal) x0) ?_).trans (key_at x0 nb kk h d)
    funext a; fin_cases a <;> rfl
  · refine (congrArg (val_main_v40 (F := Ideal) x0) ?_).trans (q_at x0 nb qi h g d)
    funext a; fin_cases a <;> rfl

/-- Those scores with −∞ outside the band. -/
theorem band_at (nb : Fin 64) (qi : Fin 128) (h g : Fin 4) (kk : Fin 384) :
   val_main_v59 (F := Ideal) x0 (ix5 h g nb qi kk) = if Seen nb.val qi.val kk.val then
    (∑ d : Fin 128, band x0 (kcol h d) (nb.val * 128 + kk.val) * x0 (ix2 (qrow nb qi) (qcol h g d))) * scale else ⊥ := by
  rw [val_main_v59_apply, loc_at, val_main_call2_v1_apply]
  have e : val_main_v38 (F := Ideal) (idx_main_call2_v1 (ix5 h g nb qi kk)) = BitVec.ofBool (Seen nb.val qi.val kk.val) := by
    refine (congrArg (val_main_v38 (F := Ideal)) ?_).trans (mask_at nb qi kk)
    funext a; fin_cases a <;> rfl
  rw [e]
  have e' : val_main_call2_v2 (F := Ideal) (ix5 h g nb qi kk) = ⊥ := neg_inf
  rw [e']
  by_cases hs : Seen nb.val qi.val kk.val
  · rw [if_pos hs, decide_eq_true hs]; rfl
  · rw [if_neg hs, decide_eq_false hs]; rfl

/-- The context keys. -/
theorem ctxkey_at (j : Fin 256) (h : Fin 4) (d : Fin 128) :
   val_main_v6 (F := Ideal) x1 (ix3 j h d) = x1 (ix2 j (kcol h d)) := by
  pointwise [val_main_v6, val_main_v5, val_main_v1]
  rfl

/-- The context values. -/
theorem ctxval_at (j : Fin 256) (h : Fin 4) (d : Fin 128) :
   val_main_v8 (F := Ideal) x1 (ix3 j h d) = x1 (ix2 j (vcol h d)) := by
  pointwise [val_main_v8, val_main_v7, val_main_v1]
  rfl

/-- The scaled scores on the context keys. -/
theorem ctx_at (nb : Fin 64) (qi : Fin 128) (h g : Fin 4) (kk : Fin 256) :
   val_main_v63 (F := Ideal) x0 x1 (ix5 h g nb qi kk) =
   (∑ d : Fin 128, x1 (ix2 kk (kcol h d)) * x0 (ix2 (qrow nb qi) (qcol h g d))) * scale := by
  rw [val_main_v63_apply, val_main_v61_apply, val_main_v60_apply]
  refine Ideal.mul_congr (Fin.sum_fin_congr fun d => ?_) rfl
  refine Ideal.mul_congr ?_ ?_
  · refine (congrArg (val_main_v6 (F := Ideal) x1) ?_).trans (ctxkey_at x1 kk h d)
    funext a; fin_cases a <;> rfl
  · refine (congrArg (val_main_v40 (F := Ideal) x0) ?_).trans (q_at x0 nb qi h g d)
    funext a; fin_cases a <;> rfl

/-- All 640 scores of a query. -/
theorem score_at (nb : Fin 64) (qi : Fin 128) (h g : Fin 4) (c : Fin 640) :
   val_main_v64 (F := Ideal) x0 x1 (ix5 h g nb qi c) = score x0 x1 h g nb qi c := by
  pointwise [val_main_v64]
  unfold score
  split
  · exact band_at x0 _ _ _ _ _
  · exact ctx_at x0 x1 _ _ _ _ _

/-- Their greatest. -/
theorem max_at (nb : Fin 64) (qi : Fin 128) (h g : Fin 4) :
   val_main_v66 (F := Ideal) x0 x1 (ix4 h g nb qi) = Finset.fold max ⊥ (score x0 x1 h g nb qi) Finset.univ := by
  pointwise [val_main_v66]
  have e : val_main_cst_9 (F := Ideal) (Shape.Idx.first Gen.h_S_) = ⊥ := neg_inf
  rw [e]
  exact congrArg (fun f => Finset.fold max ⊥ f Finset.univ) (funext fun c => score_at x0 x1 nb qi h g c)

/-- The sink logit beside the maximum. -/
theorem sink_at (nb : Fin 64) (qi : Fin 128) (h g : Fin 4) (z : Fin 1) :
   val_main_v68 (F := Ideal) x2 (ix5 h g nb qi z) = snk x2 h g := by
  rw [val_main_v68_apply, val_main_v65_apply, val_main_v39_apply]
  refine congrArg x2 ?_
  funext a; fin_cases a; rfl

/-- The subtracted maximum, sink included. -/
theorem top_at (nb : Fin 64) (qi : Fin 128) (h g : Fin 4) (z : Fin 1) :
   val_main_v69 (F := Ideal) x0 x1 x2 (ix5 h g nb qi z) = top (score x0 x1 h g nb qi) (snk x2 h g) := by
  have e : val_main_v67 (F := Ideal) x0 x1 (ix5 h g nb qi z) = Finset.fold max ⊥ (score x0 x1 h g nb qi) Finset.univ := by
    rw [val_main_v67_apply]
    refine (congrArg (val_main_v66 (F := Ideal) x0 x1) ?_).trans (max_at x0 x1 nb qi h g)
    funext a; fin_cases a <;> rfl
  rw [val_main_v69_apply, sink_at, e]
  rfl

/-- The exponentials. -/
theorem exp_at (nb : Fin 64) (qi : Fin 128) (h g : Fin 4) (c : Fin 640) :
   val_main_v72 (F := Ideal) x0 x1 x2 (ix5 h g nb qi c) = Ideal.exp (score x0 x1 h g nb qi c - top (score x0 x1 h g nb qi) (snk x2 h g)) := by
  have e : val_main_v70 (F := Ideal) x0 x1 x2 (ix5 h g nb qi c) = top (score x0 x1 h g nb qi) (snk x2 h g) := by
    rw [val_main_v70_apply]
    refine (congrArg (val_main_v69 (F := Ideal) x0 x1 x2) ?_).trans (top_at x0 x1 x2 nb qi h g 0)
    funext a; fin_cases a <;> rfl
  rw [val_main_v72_apply, val_main_v71_apply, score_at, e]
  rfl

/-- The sink logit in the denominator. -/
theorem sink_den_at (nb : Fin 64) (qi : Fin 128) (h g : Fin 4) (z : Fin 1) :
   val_main_v75 (F := Ideal) x2 (ix5 h g nb qi z) = snk x2 h g := by
  rw [val_main_v75_apply, val_main_v65_apply, val_main_v39_apply]
  refine congrArg x2 ?_
  funext a; fin_cases a; rfl

/-- The exponentials' sum. -/
theorem sum_at (nb : Fin 64) (qi : Fin 128) (h g : Fin 4) (z : Fin 1) :
   val_main_v74 (F := Ideal) x0 x1 x2 (ix5 h g nb qi z) = ∑ c, Ideal.exp (score x0 x1 h g nb qi c - top (score x0 x1 h g nb qi) (snk x2 h g)) := by
  rw [val_main_v74_apply]
  have e : idx_main_v74 (ix5 h g nb qi z) = ix4 h g nb qi := by
    funext a; fin_cases a <;> rfl
  rw [e]
  pointwise [val_main_v73]
  refine (congrArg₂ (· + ·) (show val_main_cst_10 (F := Ideal) (Shape.Idx.first Gen.h_S_) = 0 from Ideal.ofBits_zero_f32) (Finset.sum_congr rfl fun c _ => exp_at x0 x1 x2 nb qi h g c)).trans (zero_add _)

/-- The softmax denominator, sink included. -/
theorem den_at (nb : Fin 64) (qi : Fin 128) (h g : Fin 4) (z : Fin 1) :
   val_main_v78 (F := Ideal) x0 x1 x2 (ix5 h g nb qi z) = den (score x0 x1 h g nb qi) (snk x2 h g) := by
  rw [val_main_v78_apply, sum_at, val_main_v77_apply, val_main_v76_apply, sink_den_at, top_at]
  rfl

/-- The softmax weights. -/
theorem p_at (nb : Fin 64) (qi : Fin 128) (h g : Fin 4) (c : Fin 640) :
   val_main_v80 (F := Ideal) x0 x1 x2 (ix5 h g nb qi c) = Ideal.div (Ideal.exp (score x0 x1 h g nb qi c - top (score x0 x1 h g nb qi) (snk x2 h g))) (den (score x0 x1 h g nb qi) (snk x2 h g)) := by
  have e : val_main_v79 (F := Ideal) x0 x1 x2 (ix5 h g nb qi c) = den (score x0 x1 h g nb qi) (snk x2 h g) := by
    rw [val_main_v79_apply]
    refine (congrArg (val_main_v78 (F := Ideal) x0 x1 x2) ?_).trans (den_at x0 x1 x2 nb qi h g 0)
    funext a; fin_cases a <;> rfl
  rw [val_main_v80_apply, exp_at, e]
  rfl

/-- The attended values: the weights' sum over 384 laid-out keys and 256 context keys as one sum over 640. -/
theorem out_at (nb : Fin 64) (qi : Fin 128) (h g : Fin 4) (d : Fin 128) :
   val_main_v87 (F := Ideal) x0 x1 x2 (ix5 nb qi h g d) = ∑ c, value x0 x1 h nb d c * Ideal.div (Ideal.exp (score x0 x1 h g nb qi c - top (score x0 x1 h g nb qi) (snk x2 h g))) (den (score x0 x1 h g nb qi) (snk x2 h g)) := by
  rw [val_main_v87_apply, val_main_v86_apply, val_main_v85_apply, val_main_v83_apply, val_main_v82_apply]
  refine Eq.trans ?_ (Fin.sum_univ_add (a := 384) (b := 256) _).symm
  refine Ideal.add_congr (Fin.sum_fin_congr fun c => ?_) (Fin.sum_fin_congr fun c => ?_)
  · refine Ideal.mul_congr ?_ ?_
    · have hv : value x0 x1 h nb d (Fin.castAdd 256 c) = band x0 (vcol h d) (nb.val * 128 + c.val) := dif_pos c.isLt
      refine Eq.trans ?_ hv.symm
      refine (congrArg (val_main_v54 (F := Ideal) x0) ?_).trans (val_at x0 nb c h d)
      funext a; fin_cases a <;> rfl
    · rw [val_main_v81_apply]
      refine (congrArg (val_main_v80 (F := Ideal) x0 x1 x2) ?_).trans (p_at x0 x1 x2 nb qi h g (Fin.castAdd 256 c))
      funext a; fin_cases a <;> rfl
  · refine Ideal.mul_congr ?_ ?_
    · have hv : value x0 x1 h nb d (Fin.natAdd 384 c) = x1 (ix2 c (vcol h d)) := by
        refine (dif_neg (show ¬ 384 + c.val < 384 by omega)).trans ?_
        refine congrArg (fun z => x1 (ix2 z (vcol h d))) (Fin.ext ?_)
        show 384 + c.val - 384 = c.val
        omega
      refine Eq.trans ?_ hv.symm
      refine (congrArg (val_main_v8 (F := Ideal) x1) ?_).trans (ctxval_at x1 c h d)
      funext a; fin_cases a <;> rfl
    · rw [val_main_v84_apply]
      refine (congrArg (val_main_v80 (F := Ideal) x0 x1 x2) ?_).trans (p_at x0 x1 x2 nb qi h g (Fin.natAdd 384 c))
      funext a; fin_cases a <;> rfl

/-- The result array's rows and columns, read as block, row, key head, group and coordinate. -/
theorem last_at (i : S8192x2048.Idx) :
   val_main_v89 (F := Ideal) x0 x1 x2 i = val_main_v87 (F := Ideal) x0 x1 x2 (ix5 (⟨(i 0).val / 128, by have := (i 0).isLt; simp at this; omega⟩ : Fin 64) (⟨(i 0).val % 128, by omega⟩ : Fin 128) (⟨(i 1).val / 512, by have := (i 1).isLt; simp at this; omega⟩ : Fin 4) (⟨(i 1).val / 128 % 4, by omega⟩ : Fin 4) (⟨(i 1).val % 128, by omega⟩ : Fin 128)) := by
  rw [val_main_v89_apply, val_main_v88_apply]
  refine congrArg (val_main_v87 (F := Ideal) x0 x1 x2) ?_
  funext a
  have h0 : (i 0).val < 8192 := (i 0).isLt
  have h1 : (i 1).val < 2048 := (i 1).isLt
  fin_cases a <;> refine Fin.ext ?_
  all_goals simp only [idx_main_v88, ix5]
  all_goals (show _ = (_ : ℕ); dsimp; omega)

end Cert.AttnRef
-- ==== Proof.Attn.lean ====
/- The banded attention kernel: each grid point handles one key head and one block of 256 queries, over 768 columns of
keys (the block's neighbours and the context), four query heads in turn; its result is the reference's attention. -/
module

public import proofs.«01_k».proof.Defs
public import proofs.«01_k».proof.Proof.Gen.KernelIdeal.Value
public import proofs.«01_k».proof.Proof.AttnRef
public import proofs.«01_k».proof.Proof.Finite
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.Softmax Cert.AttnRef

/-- A query row's score on column `x` of the kernel's 768 keys: the scaled product where the mask allows it, else −∞. -/
def kscore (q : FVec Ideal S256x128 .bf16) (K : FVec Ideal S768x128 .bf16) (mk : IVec S256x768 1) (r : Fin 256) (x : Fin 768) : EReal :=
  Scalar.select (mk (ix2 r x)) ((∑ d : Fin 128, q (ix2 r d) * K (ix2 x d)) * Ideal.ofBits .f32 0x3DB504F3#32) ⊥

/-- The constant named for the mask is −∞. -/
theorem mask_const : (Named.named κ "mask" 0xF149F2CA#32 : Ideal .f32) = ⊥ := rfl

/-- Where the kernel keeps the key that the reference lays out at place `c` for the query in row `r` of a block. -/
def place (r : Fin 256) (c : Fin 640) : Fin 768 :=
  ⟨if c.val < 384 then c.val + 128 * (r.val / 128) else c.val + 128, by split <;> omega⟩

theorem place_inj (r : Fin 256) : Function.Injective (place r) := by
  intro a b hab
  have h : (place r a).val = (place r b).val := congrArg Fin.val hab
  unfold place at h
  dsimp only at h
  refine Fin.ext ?_
  split at h <;> split at h <;> omega

/-- The query's block of 128 and its row there. -/
def blkOf (i : Fin 32) (r : Fin 256) : Fin 64 := ⟨2 * i.val + r.val / 128, by omega⟩
def rowOf (r : Fin 256) : Fin 128 := ⟨r.val % 128, by omega⟩

/-- The kernel's mask is the band on its first 512 columns and everything on the context's 256. -/
def Open (i : Fin 32) (r : Fin 256) (x : Fin 768) : Prop :=
  512 ≤ x.val ∨ (r.val ≤ x.val ∧ x.val ≤ r.val + 256 ∧ 128 ≤ i.val * 256 + x.val ∧ i.val * 256 + x.val < 8320)

instance (i : Fin 32) (r : Fin 256) (x : Fin 768) : Decidable (Open i r x) := by unfold Open; infer_instance

section core
variable (x0 : FVec Ideal S8192x3072 .bf16) (x1 : FVec Ideal S256x3072 .bf16) (snk : EReal)
  (h g : Fin 4) (i : Fin 32) (r : Fin 256) (d : Fin 128)
  (q : FVec Ideal S256x128 .bf16) (K V : FVec Ideal S768x128 .bf16) (mk : IVec S256x768 1)
  (hq : ∀ e : Fin 128, q (ix2 r e) = x0 (ix2 (qrow (blkOf i r) (rowOf r)) (qcol h g e)))
  (hK : ∀ (x : Fin 768) (e : Fin 128), x.val < 512 → 128 ≤ i.val * 256 + x.val → i.val * 256 + x.val < 8320 →
    K (ix2 x e) = band x0 (kcol h e) (i.val * 256 + x.val))
  (hKc : ∀ (x : Fin 768) (e : Fin 128) (hx : 512 ≤ x.val), K (ix2 x e) = x1 (ix2 (⟨x.val - 512, by omega⟩ : Fin 256) (kcol h e)))
  (hV : ∀ (x : Fin 768) (e : Fin 128), x.val < 512 → 128 ≤ i.val * 256 + x.val → i.val * 256 + x.val < 8320 →
    V (ix2 x e) = band x0 (vcol h e) (i.val * 256 + x.val))
  (hVc : ∀ (x : Fin 768) (e : Fin 128) (hx : 512 ≤ x.val), V (ix2 x e) = x1 (ix2 (⟨x.val - 512, by omega⟩ : Fin 256) (vcol h e)))
  (hm : ∀ x : Fin 768, mk (ix2 r x) = BitVec.ofBool (decide (Open i r x)))

include hm in
/-- A masked column's score is −∞. -/
theorem kscore_masked (x : Fin 768) (ho : ¬ Open i r x) : kscore q K mk r x = ⊥ := by
  unfold kscore
  rw [hm, decide_eq_false ho]
  rfl

include hm in
/-- An open column's score is the scaled product. -/
theorem kscore_open (x : Fin 768) (ho : Open i r x) :
    kscore q K mk r x = (∑ e : Fin 128, q (ix2 r e) * K (ix2 x e)) * Ideal.ofBits .f32 0x3DB504F3#32 := by
  unfold kscore
  rw [hm, decide_eq_true ho]
  rfl

include hq hK hKc hm in
/-- The kernel's score at a laid-out key's place is the reference's score. -/
theorem score_place (c : Fin 640) : kscore q K mk r (place r c) = score x0 x1 h g (blkOf i r) (rowOf r) c := by
  by_cases hc : c.val < 384
  · have hp : (place r c).val = c.val + 128 * (r.val / 128) := if_pos hc
    have hiff : Open i r (place r c) ↔ Seen (blkOf i r).val (rowOf r).val c.val := by
      unfold Open Seen
      rw [hp]
      show _ ↔ r.val % 128 ≤ c.val ∧ c.val ≤ r.val % 128 + 256 ∧ 128 ≤ (2 * i.val + r.val / 128) * 128 + c.val
        ∧ (2 * i.val + r.val / 128) * 128 + c.val < 8320
      omega
    unfold score
    rw [dif_pos hc]
    by_cases ho : Open i r (place r c)
    · rw [kscore_open i r q K mk hm _ ho, if_pos (hiff.mp ho)]
      refine Ideal.mul_congr (Fin.sum_fin_congr fun e => ?_) rfl
      have ho' := ho
      unfold Open at ho'
      rw [hq, hK _ _ (by omega) (by omega) (by omega), mul_comm]
      refine Ideal.mul_congr (congrArg (band x0 (kcol h e)) ?_) rfl
      rw [hp]
      show _ = (2 * i.val + r.val / 128) * 128 + c.val
      omega
    · rw [kscore_masked i r q K mk hm _ ho, if_neg fun hs => ho (hiff.mpr hs)]
  · have hp : (place r c).val = c.val + 128 := if_neg hc
    unfold score
    rw [dif_neg hc, kscore_open i r q K mk hm _ (Or.inl (by omega))]
    refine Ideal.mul_congr (Fin.sum_fin_congr fun e => ?_) rfl
    rw [hq, hKc _ _ (by omega), mul_comm]
    refine Ideal.mul_congr (congrArg (fun z => x1 (ix2 z (kcol h e))) (Fin.ext ?_)) rfl
    show (place r c).val - 512 = c.val - 384
    omega

include hm in
/-- A column no laid-out key stands at is masked. -/
theorem score_off (x : Fin 768) (hx : x ∉ Set.range (place r)) : kscore q K mk r x = ⊥ := by
  refine kscore_masked i r q K mk hm x fun ho => hx ?_
  unfold Open at ho
  by_cases h5 : 512 ≤ x.val
  · refine ⟨⟨x.val - 128, by omega⟩, Fin.ext ?_⟩
    refine (if_neg (show ¬ x.val - 128 < 384 by omega)).trans ?_
    show x.val - 128 + 128 = x.val
    omega
  · refine ⟨⟨x.val - 128 * (r.val / 128), by omega⟩, Fin.ext ?_⟩
    refine (if_pos (show x.val - 128 * (r.val / 128) < 384 by omega)).trans ?_
    show x.val - 128 * (r.val / 128) + 128 * (r.val / 128) = x.val
    omega

include hV hVc in
/-- Where a key is not masked, the value beside it is the reference's. -/
theorem value_place (c : Fin 640) : score x0 x1 h g (blkOf i r) (rowOf r) c = ⊥
    ∨ V (ix2 (place r c) d) = value x0 x1 h (blkOf i r) d c := by
  by_cases hc : c.val < 384
  · have hp : (place r c).val = c.val + 128 * (r.val / 128) := if_pos hc
    by_cases hs : Seen (blkOf i r).val (rowOf r).val c.val
    · right
      have e : (blkOf i r).val * 128 + c.val = i.val * 256 + (place r c).val := by
        rw [hp]
        show (2 * i.val + r.val / 128) * 128 + c.val = _
        omega
      have hs' := hs
      unfold Seen at hs'
      rw [e] at hs'
      unfold value
      rw [dif_pos hc, e]
      exact hV _ _ (by omega) hs'.2.2.1 hs'.2.2.2
    · left
      unfold score
      rw [dif_pos hc, if_neg hs]
  · right
    have hp : (place r c).val = c.val + 128 := if_neg hc
    unfold value
    rw [dif_neg hc, hVc _ _ (by omega)]
    refine congrArg (fun z => x1 (ix2 z (vcol h d))) (Fin.ext ?_)
    show (place r c).val - 512 = c.val - 384
    omega

/-- Over finite inputs no score is +∞. -/
theorem score_ne_top (f0 : ∀ j, Fin' (x0 j)) (f1 : ∀ j, Fin' (x1 j)) (nb : Fin 64) (qi : Fin 128) (c : Fin 640) :
    score x0 x1 h g nb qi c ≠ ⊤ := by
  have fb : ∀ o p, Fin' (band x0 o p) := by
    intro o p
    unfold band
    split
    · exact f0 _
    · exact fin_zero
  unfold score
  split
  · split
    · exact (fin_mul (fin_sum _ fun e => fin_mul (fb _ _) (f0 _)) fin_scale).2
    · exact bot_ne_top
  · exact (fin_mul (fin_sum _ fun e => fin_mul (f1 _) (f0 _)) fin_scale).2

include hq hK hKc hV hVc hm in
/-- One head of one block: the kernel's quotient of sums over its 768 columns is the reference's sum of weighted values
over its 640 keys. -/
theorem head_at (f0 : ∀ j, Fin' (x0 j)) (f1 : ∀ j, Fin' (x1 j)) (fs : Fin' snk) :
    Ideal.div (∑ x : Fin 768, Ideal.exp (kscore q K mk r x - top (kscore q K mk r) snk) * V (ix2 x d)) (den (kscore q K mk r) snk)
      = ∑ c, value x0 x1 h (blkOf i r) d c * Ideal.div (Ideal.exp (score x0 x1 h g (blkOf i r) (rowOf r) c
          - top (score x0 x1 h g (blkOf i r) (rowOf r)) snk)) (den (score x0 x1 h g (blkOf i r) (rowOf r)) snk) :=
  attend (place r) (place_inj r) (kscore q K mk r) (score x0 x1 h g (blkOf i r) (rowOf r))
    (score_place x0 x1 h g i r q K mk hq hK hKc hm) (score_off i r q K mk hm)
    (fun x => V (ix2 x d)) (value x0 x1 h (blkOf i r) d) (value_place x0 x1 h g i r d V hV hVc) snk
    (score_ne_top x0 x1 h g f0 f1 _ _) fs.2 fs.1

end core

/-- The attended row of one query of one head, at lane `d`. -/
def attn (x0 : FVec Ideal S8192x3072 .bf16) (x1 : FVec Ideal S256x3072 .bf16) (x2 : FVec Ideal S16 .f32) (nb : Fin 64)
    (qi : Fin 128) (h g : Fin 4) (d : Fin 128) : EReal :=
  ∑ c, value x0 x1 h nb d c * Ideal.div (Ideal.exp (score x0 x1 h g nb qi c
    - top (score x0 x1 h g nb qi) (snk x2 h g))) (den (score x0 x1 h g nb qi) (snk x2 h g))

/-- The whole result at row `R`, column `C`. -/
def attnAt (x0 : FVec Ideal S8192x3072 .bf16) (x1 : FVec Ideal S256x3072 .bf16) (x2 : FVec Ideal S16 .f32) (R : Fin 8192)
    (C : Fin 2048) : EReal :=
  attn x0 x1 x2 ⟨R.val / 128, by omega⟩ ⟨R.val % 128, by omega⟩ ⟨C.val / 512, by omega⟩ ⟨C.val / 128 % 4, by omega⟩
    ⟨C.val % 128, by omega⟩

/-- The result at the row and column of a block's query, head and lane. -/
theorem attnAt_of (x0 : FVec Ideal S8192x3072 .bf16) (x1 : FVec Ideal S256x3072 .bf16) (x2 : FVec Ideal S16 .f32) (R : Fin 8192)
    (C : Fin 2048) (i : Fin 32) (r : Fin 256) (h g : Fin 4) (d : Fin 128) (hR : R.val = i.val * 256 + r.val)
    (hC : C.val = h.val * 512 + g.val * 128 + d.val) : attnAt x0 x1 x2 R C = attn x0 x1 x2 (blkOf i r) (rowOf r) h g d := by
  unfold attnAt
  congr 1 <;> apply Fin.ext
  · show R.val / 128 = 2 * i.val + r.val / 128
    omega
  · show R.val % 128 = r.val % 128
    omega
  · show C.val / 512 = h.val
    omega
  · show C.val / 128 % 4 = g.val
    omega
  · show C.val % 128 = d.val
    omega

/-- A head's block from its keys, values, mask, queries and sink, read at a row and a lane. -/
theorem pay5_at (K V : FVec Ideal S768x128 .bf16) (mk : IVec S256x768 1) (q : FVec Ideal S256x128 .bf16) (s : EReal) (r : Fin 256) (d : Fin 128) :
    k0_pay5 (F := Ideal) K V mk q s (ix2 r d)
      = Ideal.div (∑ x : Fin 768, Ideal.exp (kscore q K mk r x - top (kscore q K mk r) s) * V (ix2 x d)) (den (kscore q K mk r) s) := by
  pointwise [k0_pay5]
  rw [mask_const, neg_inf]
  rfl

/-- A head's block from its keys, values, mask, queries and sink, read at a row and a lane. -/
theorem pay1_at (K V : FVec Ideal S768x128 .bf16) (mk : IVec S256x768 1) (q : FVec Ideal S256x128 .bf16) (s : EReal) (r : Fin 256) (d : Fin 128) :
    k0_pay1 (F := Ideal) K V mk q s (ix2 r d)
      = Ideal.div (∑ x : Fin 768, Ideal.exp (kscore q K mk r x - top (kscore q K mk r) s) * V (ix2 x d)) (den (kscore q K mk r) s) := by
  pointwise [k0_pay1]
  rw [mask_const, neg_inf]
  rfl

/-- A head's block from its keys, values, mask, queries and sink, read at a row and a lane. -/
theorem pay9_at (K V : FVec Ideal S768x128 .bf16) (mk : IVec S256x768 1) (q : FVec Ideal S256x128 .bf16) (s : EReal) (r : Fin 256) (d : Fin 128) :
    k0_pay9 (F := Ideal) K V mk q s (ix2 r d)
      = Ideal.div (∑ x : Fin 768, Ideal.exp (kscore q K mk r x - top (kscore q K mk r) s) * V (ix2 x d)) (den (kscore q K mk r) s) := by
  pointwise [k0_pay9]
  rw [mask_const, neg_inf]
  rfl

/-- The same of the head whose sums are kept in between. -/
theorem pay8_at (K V : FVec Ideal S768x128 .bf16) (mk : IVec S256x768 1) (q : FVec Ideal S256x128 .bf16) (s : EReal) (r : Fin 256) (d : Fin 128) :
    k0_pay8 (F := Ideal) V s (k0_pay6 (F := Ideal) K mk q) (k0_pay7 (F := Ideal) K mk q s) (ix2 r d)
      = Ideal.div (∑ x : Fin 768, Ideal.exp (kscore q K mk r x - top (kscore q K mk r) s) * V (ix2 x d)) (den (kscore q K mk r) s) := by
  pointwise [k0_pay8, k0_pay7, k0_pay6]
  rw [mask_const, neg_inf]
  rfl

/-- The kernel's keys are four runs of rows on top of each other. -/
theorem pay2_at (a c : FVec Ideal S128x128 .bf16) (b e : FVec Ideal S256x128 .bf16) (x : Fin 768) (d : Fin 128) :
    k0_pay2 (F := Ideal) a b c e (ix2 x d) = if h : x.val < 128 then a (ix2 ⟨x.val, h⟩ d) else
      if h' : x.val - 128 < 256 then b (ix2 ⟨x.val - 128, h'⟩ d) else
      if h'' : x.val - 128 - 256 < 128 then c (ix2 ⟨x.val - 128 - 256, h''⟩ d) else e (ix2 ⟨x.val - 128 - 256 - 128, by omega⟩ d) := by
  pointwise [k0_pay2]

/-- So are its values. -/
theorem pay3_at (a c : FVec Ideal S128x128 .bf16) (b e : FVec Ideal S256x128 .bf16) (x : Fin 768) (d : Fin 128) :
    k0_pay3 (F := Ideal) a b c e (ix2 x d) = if h : x.val < 128 then a (ix2 ⟨x.val, h⟩ d) else
      if h' : x.val - 128 < 256 then b (ix2 ⟨x.val - 128, h'⟩ d) else
      if h'' : x.val - 128 - 256 < 128 then c (ix2 ⟨x.val - 128 - 256, h''⟩ d) else e (ix2 ⟨x.val - 128 - 256 - 128, by omega⟩ d) := by
  pointwise [k0_pay3]

/-- The distance of a key's column from a query's row, as a word. -/
theorem rel_word (r : Fin 256) (x : Fin 768) :
    IntOp.subi (BitVec.ofNat 32 x.val) (BitVec.ofNat 32 r.val) = BitVec.ofNat 32 (x.val + 256 - r.val) - 256#32 := by
  show BitVec.ofNat 32 x.val - BitVec.ofNat 32 r.val = _
  bv_omega

/-- A word distance within the window, by its number. -/
theorem near_word : ∀ p : Fin 1024, IntOp.andi (IntOp.cmpi CmpIPredicate.sge (BitVec.ofNat 32 p.val - 256#32) 0#32)
      (IntOp.cmpi CmpIPredicate.sle (BitVec.ofNat 32 p.val - 256#32) 256#32) = BitVec.ofBool (decide (256 ≤ p.val ∧ p.val ≤ 512)) := by
  decide +kernel

/-- A key's position in the padded sequence, less the padding, as a word. -/
theorem pos_word (i : Fin 32) (x : Fin 768) :
    IntOp.addi (Scalar.subi (Scalar.muli (BitVec.ofNat 32 i.val) 256#32) 128#32) (BitVec.ofNat 32 x.val)
      = BitVec.ofNat 32 (i.val * 256 + x.val) - 128#32 := by
  show BitVec.ofNat 32 i.val * 256#32 - 128#32 + BitVec.ofNat 32 x.val = _
  bv_omega

/-- A position at or past the sequence's start, by its number. -/
theorem low_word : ∀ p : Fin 8960, IntOp.cmpi CmpIPredicate.sge (BitVec.ofNat 32 p.val - 128#32) 0#32
      = BitVec.ofBool (decide (128 ≤ p.val)) := by decide +kernel

/-- A position before the sequence's end, by its number. -/
theorem high_word : ∀ p : Fin 8960, IntOp.cmpi CmpIPredicate.slt (BitVec.ofNat 32 p.val - 128#32) 8192#32
      = BitVec.ofBool (decide (p.val < 8320)) := by decide +kernel

/-- A column of the context, by its number. -/
theorem ctx_word : ∀ p : Fin 768, IntOp.cmpi CmpIPredicate.sge (BitVec.ofNat 32 p.val) 512#32
      = BitVec.ofBool (decide (512 ≤ p.val)) := by decide +kernel

/-- The kernel's mask, by the numbers of a row and a column. -/
theorem pay4_at (i : grid0.Coords) (n : Fin 32) (hn : (i 1).val = n.val) (r : Fin 256) (x : Fin 768) :
    k0_pay4 i (ix2 r x) = BitVec.ofBool (decide (512 ≤ x.val ∨ (r.val ≤ x.val ∧ x.val ≤ r.val + 256 ∧ 128 ≤ n.val * 256 + x.val ∧ n.val * 256 + x.val < 8320))) := by
  pointwise [k0_pay4]
  rw [hn, rel_word, near_word ⟨x.val + 256 - r.val, by omega⟩, pos_word, low_word ⟨n.val * 256 + x.val, by omega⟩, high_word ⟨n.val * 256 + x.val, by omega⟩, ctx_word]
  have e : (256 ≤ x.val + 256 - r.val ∧ x.val + 256 - r.val ≤ 512) ↔ (r.val ≤ x.val ∧ x.val ≤ r.val + 256) := by omega
  simp only [e]
  by_cases a : r.val ≤ x.val <;> by_cases a' : x.val ≤ r.val + 256 <;> by_cases b : 128 ≤ n.val * 256 + x.val <;>
    by_cases c : n.val * 256 + x.val < 8320 <;> by_cases f : 512 ≤ x.val <;> simp [a, a', b, c, f, IntOp.andi, IntOp.ori]

/-- The block index of every window at every grid point, and the point's two coordinates. -/
theorem idx : ∀ t : Fin cfg0.N, win0_1.index t = ![t.val % 32, t.val / 32] ∧ win0_2.index t = ![2 * (t.val % 32) - 1, 16 + t.val / 32] ∧ win0_6.index t = ![2 * (t.val % 32) - 1, 20 + t.val / 32]
    ∧ win0_3.index t = ![t.val % 32, 16 + t.val / 32] ∧ win0_7.index t = ![t.val % 32, 20 + t.val / 32]
    ∧ win0_4.index t = ![min (2 * (t.val % 32) + 2) 63, 16 + t.val / 32] ∧ win0_8.index t = ![min (2 * (t.val % 32) + 2) 63, 20 + t.val / 32]
    ∧ win0_5.index t = ![0, 16 + t.val / 32] ∧ win0_9.index t = ![0, 20 + t.val / 32] ∧ win0_0.index t = ![0] ∧ win0_10.index t = ![t.val % 32, t.val / 32]
    ∧ (grid0.coords t 1).val = t.val % 32 ∧ (grid0.coords t 0).val = t.val / 32 ∧ t.val < 128 :=
  (by decide +kernel : ∀ t : Fin grid0.N, _)

variable (m : (ℓ : Loc nD τ sig) → Buf (Elt Ideal) ℓ)

/-- The kernel's keys at an unmasked column of its first 512: the padded keys' row. -/
theorem keys_at (c : Dev nD) (t : Fin cfg0.N) (h : Fin 4) (i : Fin 32) (hh : h.val = t.val / 32) (hi : i.val = t.val % 32)
    (x : Fin 768) (e : Fin 128) (hx : x.val < 512) (hl : 128 ≤ i.val * 256 + x.val) (hu : i.val * 256 + x.val < 8320) :
    k0_pay2 (F := Ideal) (iblk m c 2 t) (iblk m c 3 t) (iblk m c 4 t) (iblk m c 5 t) (ix2 x e)
      = band (m ((c : Thread nD τ).loc main_arg0)) (kcol h e) (i.val * 256 + x.val) := by
  rw [pay2_at]
  unfold band
  rw [dif_pos (⟨hl, by omega⟩ : 128 ≤ i.val * 256 + x.val ∧ i.val * 256 + x.val - 128 < 8192)]
  have := idx t
  split
  · unfold kcol; blk_point [iblk, V, idx t]
  · split
    · unfold kcol; blk_point [iblk, V, idx t]
    · rw [dif_pos (show x.val - 128 - 256 < 128 by omega)]
      unfold kcol; blk_point [iblk, V, idx t]

/-- The kernel's keys past column 512 are the context's. -/
theorem ctx_keys_at (c : Dev nD) (t : Fin cfg0.N) (h : Fin 4) (hh : h.val = t.val / 32)
    (x : Fin 768) (e : Fin 128) (hx : 512 ≤ x.val) :
    k0_pay2 (F := Ideal) (iblk m c 2 t) (iblk m c 3 t) (iblk m c 4 t) (iblk m c 5 t) (ix2 x e)
      = m ((c : Thread nD τ).loc main_arg1) (ix2 (⟨x.val - 512, by omega⟩ : Fin 256) (kcol h e)) := by
  rw [pay2_at, dif_neg (by omega), dif_neg (by omega), dif_neg (by omega)]
  unfold kcol
  blk_point [iblk, V, idx t]

/-- The kernel's values at an unmasked column of its first 512: the padded values' row. -/
theorem vals_at (c : Dev nD) (t : Fin cfg0.N) (h : Fin 4) (i : Fin 32) (hh : h.val = t.val / 32) (hi : i.val = t.val % 32)
    (x : Fin 768) (e : Fin 128) (hx : x.val < 512) (hl : 128 ≤ i.val * 256 + x.val) (hu : i.val * 256 + x.val < 8320) :
    k0_pay3 (F := Ideal) (iblk m c 6 t) (iblk m c 7 t) (iblk m c 8 t) (iblk m c 9 t) (ix2 x e)
      = band (m ((c : Thread nD τ).loc main_arg0)) (vcol h e) (i.val * 256 + x.val) := by
  rw [pay3_at]
  unfold band
  rw [dif_pos (⟨hl, by omega⟩ : 128 ≤ i.val * 256 + x.val ∧ i.val * 256 + x.val - 128 < 8192)]
  have := idx t
  split
  · unfold vcol; blk_point [iblk, V, idx t]
  · split
    · unfold vcol; blk_point [iblk, V, idx t]
    · rw [dif_pos (show x.val - 128 - 256 < 128 by omega)]
      unfold vcol; blk_point [iblk, V, idx t]

/-- The kernel's values past column 512 are the context's. -/
theorem ctx_vals_at (c : Dev nD) (t : Fin cfg0.N) (h : Fin 4) (hh : h.val = t.val / 32)
    (x : Fin 768) (e : Fin 128) (hx : 512 ≤ x.val) :
    k0_pay3 (F := Ideal) (iblk m c 6 t) (iblk m c 7 t) (iblk m c 8 t) (iblk m c 9 t) (ix2 x e)
      = m ((c : Thread nD τ).loc main_arg1) (ix2 (⟨x.val - 512, by omega⟩ : Fin 256) (vcol h e)) := by
  rw [pay3_at, dif_neg (by omega), dif_neg (by omega), dif_neg (by omega)]
  unfold vcol
  blk_point [iblk, V, idx t]

/-- A head's sink stands at place `h * 4 + g` of its window. -/
theorem sink_off : ∀ t : Fin grid0.N, ∀ g : Fin 4, k0_off1 (grid0.coords t) (BitVec.ofNat 32 g.val) = ![t.val / 32 * 4 + g.val] := by
  decide +kernel

/-- The window of sinks is the whole array. -/
theorem sink_at (c : Dev nD) (t : Fin cfg0.N) (g : Fin 16) :
   (show FVec Ideal S16 .f32 from iblk m c 0 t) (ix1 g) = m ((c : Thread nD τ).loc main_arg2) (ix1 g) := by
  blk_point [iblk, V, idx t]

/-- The sink a head loads is its own. -/
theorem ld_sink (c : Dev nD) (t : Fin cfg0.N) (g : Fin 4) (h : Fin 4) (hh : h.val = t.val / 32) (hb hz) :
  (View.ld (iblk m c 0 t) (Rect.unit (s := S16) (k0_off1 (grid0.coords t) (BitVec.ofNat 32 g.val)) ![1] hb) (Shape.Idx.first hz) : EReal) = snk (m ((c : Thread nD τ).loc main_arg2)) h g := by
  unfold snk
  refine Eq.trans ?_ (sink_at m c t _)
  show (show FVec Ideal S16 .f32 from iblk m c 0 t) _ = _
  refine congrArg (show FVec Ideal S16 .f32 from iblk m c 0 t) (funext fun a => Fin.ext ?_)
  have e := congrFun (sink_off t g) a
  match a with
  | 0 =>
    refine Eq.trans ?_ (e.trans ?_)
    · exact (Rect.idx_unit_val _ _ _ _ _).trans (Nat.add_zero _)
    · show t.val / 32 * 4 + g.val = h.val * 4 + g.val
      omega

/-- The query rows a head loads are its own. -/
theorem ld_q0 (c : Dev nD) (t : Fin cfg0.N) (h : Fin 4) (i : Fin 32) (hh : h.val = t.val / 32) (hi : i.val = t.val % 32) (r : Fin 256) (e : Fin 128) (hb) :
  (View.ld (iblk m c 1 t) (Rect.unit ![0, 0] ![256, 128] hb) : FVec Ideal S256x128 .bf16) (ix2 r e)
   = m ((c : Thread nD τ).loc main_arg0) (ix2 (qrow (blkOf i r) (rowOf r)) (qcol h 0 e)) := by
  unfold qrow qcol blkOf rowOf
  blk_point [iblk, V, idx t]

/-- The query rows a head loads are its own. -/
theorem ld_q1 (c : Dev nD) (t : Fin cfg0.N) (h : Fin 4) (i : Fin 32) (hh : h.val = t.val / 32) (hi : i.val = t.val % 32) (r : Fin 256) (e : Fin 128) (hb) :
  (View.ld (iblk m c 1 t) (Rect.unit ![0, 128] ![256, 128] hb) : FVec Ideal S256x128 .bf16) (ix2 r e)
   = m ((c : Thread nD τ).loc main_arg0) (ix2 (qrow (blkOf i r) (rowOf r)) (qcol h 1 e)) := by
  unfold qrow qcol blkOf rowOf
  blk_point [iblk, V, idx t]

/-- The query rows a head loads are its own. -/
theorem ld_q2 (c : Dev nD) (t : Fin cfg0.N) (h : Fin 4) (i : Fin 32) (hh : h.val = t.val / 32) (hi : i.val = t.val % 32) (r : Fin 256) (e : Fin 128) (hb) :
  (View.ld (iblk m c 1 t) (Rect.unit ![0, 256] ![256, 128] hb) : FVec Ideal S256x128 .bf16) (ix2 r e)
   = m ((c : Thread nD τ).loc main_arg0) (ix2 (qrow (blkOf i r) (rowOf r)) (qcol h 2 e)) := by
  unfold qrow qcol blkOf rowOf
  blk_point [iblk, V, idx t]

/-- The query rows a head loads are its own. -/
theorem ld_q3 (c : Dev nD) (t : Fin cfg0.N) (h : Fin 4) (i : Fin 32) (hh : h.val = t.val / 32) (hi : i.val = t.val % 32) (r : Fin 256) (e : Fin 128) (hb) :
  (View.ld (iblk m c 1 t) (Rect.unit ![0, 384] ![256, 128] hb) : FVec Ideal S256x128 .bf16) (ix2 r e)
   = m ((c : Thread nD τ).loc main_arg0) (ix2 (qrow (blkOf i r) (rowOf r)) (qcol h 3 e)) := by
  unfold qrow qcol blkOf rowOf
  blk_point [iblk, V, idx t]

/-- A head's block is what the reference attends to, given that the loaded rows and sink are that head's. -/
theorem block_at (c : Dev nD) (t : Fin cfg0.N) (h g : Fin 4) (i : Fin 32) (hh : h.val = t.val / 32) (hi : i.val = t.val % 32)
    (q : FVec Ideal S256x128 .bf16) (s : EReal) (r : Fin 256) (d : Fin 128)
    (hq : ∀ e : Fin 128, q (ix2 r e) = m ((c : Thread nD τ).loc main_arg0) (ix2 (qrow (blkOf i r) (rowOf r)) (qcol h g e)))
    (hs : s = snk (m ((c : Thread nD τ).loc main_arg2)) h g)
    (f0 : ∀ j, Fin' (m ((c : Thread nD τ).loc main_arg0) j)) (f1 : ∀ j, Fin' (m ((c : Thread nD τ).loc main_arg1) j))
    (f2 : ∀ j, Fin' (m ((c : Thread nD τ).loc main_arg2) j)) (R : Fin 8192) (C : Fin 2048) (hR : R.val = i.val * 256 + r.val)
    (hC : C.val = h.val * 512 + g.val * 128 + d.val)
    (K V : FVec Ideal S768x128 .bf16) (mk : IVec S256x768 1)
    (eK : K = k0_pay2 (F := Ideal) (iblk m c 2 t) (iblk m c 3 t) (iblk m c 4 t) (iblk m c 5 t))
    (eV : V = k0_pay3 (F := Ideal) (iblk m c 6 t) (iblk m c 7 t) (iblk m c 8 t) (iblk m c 9 t))
    (eM : mk = k0_pay4 (grid0.coords t)) :
    Ideal.div (∑ x : Fin 768, Ideal.exp (kscore q K mk r x - top (kscore q K mk r) s) * V (ix2 x d)) (den (kscore q K mk r) s)
      = attnAt (m ((c : Thread nD τ).loc main_arg0)) (m ((c : Thread nD τ).loc main_arg1)) (m ((c : Thread nD τ).loc main_arg2)) R C := by
  rw [attnAt_of _ _ _ R C i r h g d hR hC]
  subst eK eV eM hs
  exact head_at _ _ _ h g i r d q _ _ _ hq (fun x e h1 h2 h3 => keys_at m c t h i hh hi x e h1 h2 h3)
    (fun x e h1 => ctx_keys_at m c t h hh x e h1) (fun x e h1 h2 h3 => vals_at m c t h i hh hi x e h1 h2 h3)
    (fun x e h1 => ctx_vals_at m c t h hh x e h1)
    (fun x => pay4_at (grid0.coords t) i (by have := idx t; omega) r x) f0 f1 (f2 _)

/-- What a grid point leaves in its block. -/
theorem out_at (c : Dev nD) (t : Fin cfg0.N) (y : S256x512.Idx) (f0 : ∀ j, Fin' (m ((c : Thread nD τ).loc main_arg0) j))
    (f1 : ∀ j, Fin' (m ((c : Thread nD τ).loc main_arg1) j)) (f2 : ∀ j, Fin' (m ((c : Thread nD τ).loc main_arg2) j))
    (R : Fin 8192) (C : Fin 2048) (hR : R.val = t.val % 32 * 256 + (y 0).val) (hC : C.val = t.val / 32 * 512 + (y 1).val) :
    outsAt0 m c t y = attnAt (m ((c : Thread nD τ).loc main_arg0)) (m ((c : Thread nD τ).loc main_arg1)) (m ((c : Thread nD τ).loc main_arg2)) R C := by
  have hN : t.val < 128 := (idx t).2.2.2.2.2.2.2.2.2.2.2.2.2
  have hi : t.val % 32 < 32 := by omega
  have hh : t.val / 32 < 4 := by omega
  unfold Gen.outsAt0
  frame_out
  canon_tiles x h
  case piece0 =>
    refine (congrArg _ (eq_ix2 x)).trans ((pay1_at _ _ _ _ _ (x 0) (x 1)).trans ?_)
    exact block_at m c t ⟨t.val / 32, hh⟩ 3 ⟨t.val % 32, hi⟩ rfl rfl _ _ _ _ (fun e => ld_q3 m c t _ _ rfl rfl _ e _)
      (ld_sink m c t 3 _ rfl _ _) f0 f1 f2 R C (by dsimp only; omega) (by dsimp only; show _ = _ + 3 * 128 + _; omega) _ _ _ rfl rfl rfl
  case piece1 =>
    refine (congrArg _ (eq_ix2 x)).trans ((pay9_at _ _ _ _ _ (x 0) (x 1)).trans ?_)
    exact block_at m c t ⟨t.val / 32, hh⟩ 2 ⟨t.val % 32, hi⟩ rfl rfl _ _ _ _ (fun e => ld_q2 m c t _ _ rfl rfl _ e _)
      (ld_sink m c t 2 _ rfl _ _) f0 f1 f2 R C (by dsimp only; omega) (by dsimp only; show _ = _ + 2 * 128 + _; omega) _ _ _ rfl rfl rfl
  case piece2 =>
    refine (congrArg _ (eq_ix2 x)).trans ((pay8_at _ _ _ _ _ (x 0) (x 1)).trans ?_)
    exact block_at m c t ⟨t.val / 32, hh⟩ 1 ⟨t.val % 32, hi⟩ rfl rfl _ _ _ _ (fun e => ld_q1 m c t _ _ rfl rfl _ e _)
      (ld_sink m c t 1 _ rfl _ _) f0 f1 f2 R C (by dsimp only; omega) (by dsimp only; show _ = _ + 1 * 128 + _; omega) _ _ _ rfl rfl rfl
  case piece3 =>
    refine (congrArg _ (eq_ix2 x)).trans ((pay5_at _ _ _ _ _ (x 0) (x 1)).trans ?_)
    exact block_at m c t ⟨t.val / 32, hh⟩ 0 ⟨t.val % 32, hi⟩ rfl rfl _ _ _ _ (fun e => ld_q0 m c t _ _ rfl rfl _ e _)
      (ld_sink m c t 0 _ rfl _ _) f0 f1 f2 R C (by dsimp only; omega) (by dsimp only; show _ = _ + 0 * 128 + _; omega) _ _ _ rfl rfl rfl

/-- The result array after the run. -/
theorem final (c : Dev nD) (f0 : ∀ j, Fin' (m ((c : Thread nD τ).loc main_arg0) j))
    (f1 : ∀ j, Fin' (m ((c : Thread nD τ).loc main_arg1) j)) (f2 : ∀ j, Fin' (m ((c : Thread nD τ).loc main_arg2) j)) :
    (dats m 0 c).arrAt 10 (cfgs 0).N = fun i : S8192x2048.Idx => attnAt (m ((c : Thread nD τ).loc main_arg0)) (m ((c : Thread nD τ).loc main_arg1)) (m ((c : Thread nD τ).loc main_arg2)) (i 0) (i 1) := by
  refine (dats m 0 c).arrAt_eq_of_covers 10 _ (by decide +kernel) fun t hf y => ?_
  blk_simp
  rw [after0_10]
  refine out_at m c t y f0 f1 f2 _ _ ?_ ?_
  all_goals blk_simp [idx t] <;> (try dsimp only) <;> try omega

/-- The reference's result, read at a row and a column. -/
theorem ref_at (x0 : FVec Ideal Cert.ReferenceIdeal.S8192x3072 .bf16) (x1 : FVec Ideal Cert.ReferenceIdeal.S256x3072 .bf16)
    (x2 : FVec Ideal Cert.ReferenceIdeal.S16 .f32) (j : Cert.ReferenceIdeal.S8192x2048.Idx) :
    Cert.ReferenceIdeal.Read.val_main_v89 (F := Ideal) x0 x1 x2 j = attnAt x0 x1 x2 (j 0) (j 1) :=
  (Cert.AttnRef.last_at x0 x1 x2 j).trans (Cert.AttnRef.out_at x0 x1 x2 _ _ _ _ _)

/-- Over finite inputs the kernel's result is the reference's, at every index. -/
theorem algebraic : Cert.algebraic_KernelIdeal_ReferenceIdeal_pre_finite := by
  pair_intro
  · run_from Cert.KernelIdeal.Gen.run_main m g
  · refine (θ_run Cert.ReferenceIdeal.defs _ _).mono (fun _ h c => ⟨(h c).1.trans ?_, (h c).2⟩)
      (Cert.ReferenceIdeal.Value.run (F := Ideal) m' g')
    obtain ⟨f0, f1, f2⟩ := Cert.Finite.all_finite _ _ _ (hpre c)
    rw [Cert.ReferenceIdeal.Read.val_main_v89_eq, (hagree c).1, (hagree c).2.1, (hagree c).2.2]
    exact (funext fun i => ref_at _ _ _ i).trans (final m c f0 f1 f2).symm

end Cert.KernelIdeal.Final
-- ==== Proof.FfnUp.lean ====
/- The FFN's first half: `rms_norm`, the shift and scale of `mod`, and the product with `w_up`, in two results
   (gate and value). -/
module

public import proofs.«01_k».proof.Proof.Gen.FfnUpIdeal.Value
public import proofs.«01_k».proof.Proof.Gen.FfnUpRefIdeal.Read
public import proofs.«01_k».proof.Defs
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnUpIdeal.Final

open Cert.FfnUpIdeal Cert.FfnUpIdeal.Gen

/-- Row `r`, lane `k` of the modulated activations: the row over its root mean square, times one plus the scale
    (chunk 4 of `mod`), plus the shift (chunk 3). -/
def hAt (x : FVec Ideal S8192x2048 .f32) (md : FVec Ideal S4x8x12288 .f32) (r : Fin 8192) (k : Fin 2048) : EReal :=
  x (ix2 r k) * Ideal.rsqrt (Ideal.div (∑ l : Fin 2048, x (ix2 r l) * x (ix2 r l)) (Ideal.ofBits .f32 0x45000000#32)
      + Ideal.ofBits .f32 0x358637BD#32)
    * (1 + md (ix3 0 0 ⟨8192 + k.val, by omega⟩)) + md (ix3 0 0 ⟨6144 + k.val, by omega⟩)

/-- Entry `(r, n)` of the whole product: the modulated row against column `n` of `w_up`. -/
def upAt (x : FVec Ideal S8192x2048 .f32) (md : FVec Ideal S4x8x12288 .f32) (w : FVec Ideal S4x2048x11264 .f32)
    (r : Fin 8192) (n : Fin 11264) : EReal :=
  ∑ k : Fin 2048, hAt x md r k * w (ix3 0 k n)

/-- The block index of every window at every grid point. -/
theorem idx : ∀ t : Fin cfg0.N, win0_0.index t = ![t.val / 11, 0] ∧ win0_1.index t = ![0, 0, 3]
    ∧ win0_2.index t = ![0, 0, 4] ∧ win0_3.index t = ![0, 0, t.val % 11] ∧ win0_4.index t = ![0, 0, 11 + t.val % 11]
    ∧ win0_5.index t = ![t.val / 11, t.val % 11] ∧ win0_6.index t = ![t.val / 11, t.val % 11] ∧ t.val / 11 < 8 :=
  (by decide +kernel : ∀ t : Fin grid0.N, _)

/-- What the modulation stores, read at a row and a lane. -/
theorem pay1_at (x : FVec Ideal S1024x2048 .f32) (sc sh : FVec Ideal S1x1x2048 .f32) (r : Fin 1024) (k : Fin 2048) :
    k0_pay1 (F := Ideal) x sc sh (ix2 r k)
      = x (ix2 r k) * Ideal.rsqrt (Ideal.div (∑ l : Fin 2048, x (ix2 r l) * x (ix2 r l)) (Ideal.ofBits .f32 0x45000000#32)
      + Ideal.ofBits .f32 0x358637BD#32) * (1 + sc (ix3 0 0 k)) + sh (ix3 0 0 k) := by
  pointwise [k0_pay1]

/-- What the gate's product stores, read at a row and a column. -/
theorem pay2_at (h : FVec Ideal S1024x2048 .bf16) (w : FVec Ideal S1x2048x512 .f32) (r : Fin 1024) (n : Fin 512) :
    k0_pay2 (F := Ideal) h w (ix2 r n) = ∑ k : Fin 2048, h (ix2 r k) * w (ix3 0 k n) := by
  pointwise [k0_pay2]

/-- The value's product is the same operation. -/
theorem pay3_at (h : FVec Ideal S1024x2048 .bf16) (w : FVec Ideal S1x2048x512 .f32) (r : Fin 1024) (n : Fin 512) :
    k0_pay3 (F := Ideal) h w (ix2 r n) = ∑ k : Fin 2048, h (ix2 r k) * w (ix3 0 k n) := by
  pointwise [k0_pay3]

variable (m : (ℓ : Loc nD τ sig) → Buf (Elt Ideal) ℓ)

/-- At the other points it is what the point before left. -/
theorem scratch_B (c : Dev nD) (t : Fin cfg0.N) (h : ¬t.val % 11 = 0) :
    (outsAt0 m c t.val t.isLt).2.2
      = (outsAt0 m c (t.val - 1) (Nat.lt_of_le_of_lt (Nat.sub_le _ _) t.isLt)).2.2 := by
  rw [outsAt0_B m c t h]
  dsimp only
  unfold sout0_B_0
  rfl

/-- At the first point of a row block the scratch takes the modulated rows of the block. -/
theorem scratch_A (c : Dev nD) (t : Fin cfg0.N) (h : t.val % 11 = 0) (r : Fin 1024) (k : Fin 2048) (R : Fin 8192)
    (hR : R.val = t.val / 11 * 1024 + r.val) :
    (outsAt0 m c t.val t.isLt).2.2 (ix2 r k)
      = hAt (m ((c : Thread nD τ).loc main_arg0)) (m ((c : Thread nD τ).loc main_arg1)) R k := by
  rw [outsAt0_A m c t h]
  frame_out
  rw [pay1_at]
  pointwise [hAt]
  blk_point [iblk, V, idx t]

/-- After any point the scratch holds the modulated rows of the point's row block. -/
theorem scratch_at (c : Dev nD) (n : ℕ) : ∀ (hn : n < cfg0.N) (r : Fin 1024) (k : Fin 2048) (R : Fin 8192),
    R.val = n / 11 * 1024 + r.val →
    (outsAt0 m c n hn).2.2 (ix2 r k)
      = hAt (m ((c : Thread nD τ).loc main_arg0)) (m ((c : Thread nD τ).loc main_arg1)) R k := by
  induction n with
  | zero =>
    intro hn r k R hR
    exact scratch_A m c ⟨0, hn⟩ rfl r k R hR
  | succ n ih =>
    intro hn r k R hR
    by_cases h : (n + 1) % 11 = 0
    · exact scratch_A m c ⟨n + 1, hn⟩ h r k R hR
    · rw [scratch_B m c ⟨n + 1, hn⟩ h]
      exact ih (Nat.lt_of_succ_lt hn) r k R (by omega)

/-- The gate's block is the gate product over the scratch. -/
theorem gate_eq (c : Dev nD) (t : Fin cfg0.N) :
    (outsAt0 m c t.val t.isLt).1 = k0_pay2 (F := Ideal) (outsAt0 m c t.val t.isLt).2.2 (iblk m c 3 t) := by
  by_cases h : t.val % 11 = 0
  · rw [outsAt0_A m c t h]
    frame_out
  · rw [scratch_B m c t h, outsAt0_B m c t h]
    frame_out
    exact congrArg (fun z => k0_pay2 (F := Ideal) z (iblk m c 3 t)) (Memref.IsWhole.read_unread _ _)

/-- The value's block is the value product over the scratch. -/
theorem val_eq (c : Dev nD) (t : Fin cfg0.N) :
    (outsAt0 m c t.val t.isLt).2.1 = k0_pay3 (F := Ideal) (outsAt0 m c t.val t.isLt).2.2 (iblk m c 4 t) := by
  by_cases h : t.val % 11 = 0
  · rw [outsAt0_A m c t h]
    frame_out
  · rw [scratch_B m c t h, outsAt0_B m c t h]
    frame_out
    exact congrArg (fun z => k0_pay3 (F := Ideal) z (iblk m c 4 t)) (Memref.IsWhole.read_unread _ _)

/-- The gate's block at a row and a column: the whole product there. -/
theorem gate_at (c : Dev nD) (t : Fin cfg0.N) (r : Fin 1024) (n : Fin 512) (R : Fin 8192) (N : Fin 11264)
    (hR : R.val = t.val / 11 * 1024 + r.val) (hN : N.val = t.val % 11 * 512 + n.val) :
    k0_pay2 (F := Ideal) (outsAt0 m c t.val t.isLt).2.2 (iblk m c 3 t) (ix2 r n)
      = upAt (m ((c : Thread nD τ).loc main_arg0)) (m ((c : Thread nD τ).loc main_arg1))
          (m ((c : Thread nD τ).loc main_arg2)) R N := by
  rw [pay2_at]
  unfold upAt
  refine Fin.sum_fin_congr fun k => ?_
  refine Ideal.mul_congr (scratch_at m c t.val t.isLt r k R hR) ?_
  blk_ext [iblk, V, idx t]

/-- The value's block at a row and a column: the whole product, half the columns further. -/
theorem val_at (c : Dev nD) (t : Fin cfg0.N) (r : Fin 1024) (n : Fin 512) (R : Fin 8192) (N : Fin 11264)
    (hR : R.val = t.val / 11 * 1024 + r.val) (hN : N.val = 5632 + t.val % 11 * 512 + n.val) :
    k0_pay3 (F := Ideal) (outsAt0 m c t.val t.isLt).2.2 (iblk m c 4 t) (ix2 r n)
      = upAt (m ((c : Thread nD τ).loc main_arg0)) (m ((c : Thread nD τ).loc main_arg1))
          (m ((c : Thread nD τ).loc main_arg2)) R N := by
  rw [pay3_at]
  unfold upAt
  refine Fin.sum_fin_congr fun k => ?_
  refine Ideal.mul_congr (scratch_at m c t.val t.isLt r k R hR) ?_
  blk_ext [iblk, V, idx t]

/-- The gate array after the run: the first half of the product's columns. -/
theorem final5 (c : Dev nD) : (dats m 0 c).arrAt 5 (cfgs 0).N
    = fun i : S8192x5632.Idx => upAt (m ((c : Thread nD τ).loc main_arg0)) (m ((c : Thread nD τ).loc main_arg1))
        (m ((c : Thread nD τ).loc main_arg2)) (i 0) ⟨(i 1).val, by have : (i 1).val < 5632 := (i 1).isLt; omega⟩ := by
  refine (dats m 0 c).arrAt_eq_of_covers 5 _ (by decide +kernel) fun t _ y => ?_
  blk_simp
  rw [after0_5, gate_eq]
  refine (congrArg _ (eq_ix2 y)).trans (gate_at m c t (y 0) (y 1) _ _ ?_ ?_)
  all_goals blk_simp [idx t] <;> (try dsimp only) <;> try omega

/-- The value array after the run: the second half of the product's columns. -/
theorem final6 (c : Dev nD) : (dats m 0 c).arrAt 6 (cfgs 0).N
    = fun i : S8192x5632.Idx => upAt (m ((c : Thread nD τ).loc main_arg0)) (m ((c : Thread nD τ).loc main_arg1))
        (m ((c : Thread nD τ).loc main_arg2)) (i 0) ⟨5632 + (i 1).val, by have : (i 1).val < 5632 := (i 1).isLt; omega⟩ := by
  refine (dats m 0 c).arrAt_eq_of_covers 6 _ (by decide +kernel) fun t _ y => ?_
  blk_simp
  rw [after0_6, val_eq]
  refine (congrArg _ (eq_ix2 y)).trans (val_at m c t (y 0) (y 1) _ _ ?_ ?_)
  all_goals blk_simp [idx t] <;> (try dsimp only) <;> try omega

/-- The reference's product, read at a row and a column. -/
theorem ref_gate (x0 : FVec Ideal Cert.FfnUpRefIdeal.S8192x2048 .f32) (x1 : FVec Ideal Cert.FfnUpRefIdeal.S4x8x12288 .f32)
    (x2 : FVec Ideal Cert.FfnUpRefIdeal.S4x2048x11264 .f32) (j : Cert.FfnUpRefIdeal.S8192x5632.Idx) :
    Cert.FfnUpRefIdeal.Read.val_main_v31 (F := Ideal) x0 x1 x2 j
      = upAt x0 x1 x2 (j 0) ⟨(j 1).val, by have : (j 1).val < 5632 := (j 1).isLt; omega⟩ := by
  rw [← Cert.FfnUpRefIdeal.Read.val_main_v31_eq]
  pointwise [upAt, hAt]

/-- The reference's product, read at a row and a column of the second half. -/
theorem ref_val (x0 : FVec Ideal Cert.FfnUpRefIdeal.S8192x2048 .f32) (x1 : FVec Ideal Cert.FfnUpRefIdeal.S4x8x12288 .f32)
    (x2 : FVec Ideal Cert.FfnUpRefIdeal.S4x2048x11264 .f32) (j : Cert.FfnUpRefIdeal.S8192x5632.Idx) :
    Cert.FfnUpRefIdeal.Read.val_main_v32 (F := Ideal) x0 x1 x2 j
      = upAt x0 x1 x2 (j 0) ⟨5632 + (j 1).val, by have : (j 1).val < 5632 := (j 1).isLt; omega⟩ := by
  rw [← Cert.FfnUpRefIdeal.Read.val_main_v32_eq]
  pointwise [upAt, hAt]

/-- The kernel's two results are the reference's two, at every index. -/
theorem algebraic : Cert.algebraic_FfnUpIdeal_FfnUpRefIdeal := by
  pair_intro
  · run_from Cert.FfnUpIdeal.Gen.run_main m g
  · hlo_run
    · exact (Cert.FfnUpRefIdeal.Read.val_main_v31_eq (F := Ideal) _ _ _).trans
        ((funext fun i => ref_gate _ _ _ i).trans (final5 m c).symm)
    · exact (Cert.FfnUpRefIdeal.Read.val_main_v32_eq (F := Ideal) _ _ _).trans
        ((funext fun i => ref_val _ _ _ i).trans (final6 m c).symm)

end Cert.FfnUpIdeal.Final
-- ==== Proof.Tiles.lean ====
/- Sums done tile by tile: a block that is set at the first point of a run and added into at the points after it holds
   the sum of the tiles seen so far, and all the tiles together are the whole sum. -/
module

public import Idealize.ShloMosaic.Lib.Pipeline.ValueKit
public import Idealize.ShloMosaic.Lib.Pointwise

@[expose] public section

noncomputable section

namespace Cert.Tiles

/-- Tile `q` of width `T` of a sum over `K` lanes. -/
def tile (T : ℕ) {K : ℕ} (g : Fin K → EReal) (q : ℕ) : EReal :=
  ∑ k : Fin T, if h : q * T + k.val < K then g ⟨q * T + k.val, h⟩ else 0

/-- The tiles together are the whole sum. -/
theorem sum_tile (J T K : ℕ) (hK : J * T = K) (g : Fin K → EReal) :
    ∑ q ∈ Finset.range J, tile T g q = ∑ k : Fin K, g k := by
  subst hK
  rw [Finset.sum_range, Idealize.ShloMosaic.Fin.sum_univ_tiles J T rfl g]
  refine Finset.sum_congr rfl fun q _ => Finset.sum_congr rfl fun k _ => ?_
  rw [dif_pos]

/-- Over one run of points, a value that starts at the first tile and takes the next tile at each point is the sum of
    the tiles up to the point; said for the points before the run's last. -/
theorem acc_run {N : ℕ} (o : ∀ n, n < N → EReal) (J q : ℕ) (term : ℕ → EReal)
    (hA : ∀ hn : q * J < N, o (q * J) hn = term 0)
    (hB : ∀ s, s + 1 < J - 1 → ∀ hn : q * J + (s + 1) < N,
      o (q * J + (s + 1)) hn = o (q * J + s) (Nat.lt_of_succ_lt hn) + term (s + 1)) :
    ∀ s, s < J - 1 → ∀ hn : q * J + s < N, o (q * J + s) hn = ∑ i ∈ Finset.range (s + 1), term i := by
  intro s
  induction s with
  | zero => intro _ hn; rw [Finset.sum_range_one]; exact hA hn
  | succ s ih =>
    intro hs hn
    rw [hB s hs hn, ih (by omega), Finset.sum_range_succ _ (s + 1)]

end Cert.Tiles
-- ==== Proof.Conv.lean ====
/- The three-tap convolution along the rows, seen from one row block: the row before and the row after an element, taken
   from the block by a rotation, from the halo block at the block's edge, and zero outside the array. -/
module

public import Idealize.ShloMosaic.Lib.Pipeline.ValueKit
public import Idealize.ShloMosaic.Lib.Pointwise

@[expose] public section

set_option maxRecDepth 16384

noncomputable section

open Idealize.ShloMosaic

namespace Cert.Conv

/-- The element one row before row `r` of a column of 8192 rows, zero before the first. -/
def before (f : Fin 8192 → EReal) (r : Fin 8192) : EReal :=
  if h : 1 ≤ r.val then f ⟨r.val - 1, by omega⟩ else 0

/-- The element one row after row `r`, zero after the last. -/
def after (f : Fin 8192 → EReal) (r : Fin 8192) : EReal :=
  if h : r.val + 1 < 8192 then f ⟨r.val + 1, h⟩ else 0

/-- The three taps at row `r`. -/
def taps (f : Fin 8192 → EReal) (w0 w1 w2 : EReal) (r : Fin 8192) : EReal :=
  before f r * w0 + f r * w1 + after f r * w2

/-- The zero the host pads with. -/
theorem pad_zero : (FloatOps.sitofp (F := Ideal) .f32 (0#32 : BitVec 32) : EReal) = 0 := by
  show ((((0#32 : BitVec 32).toInt : ℝ)) : EReal) = 0
  simp

theorem first_row : ∀ r : Fin 1024, IntOp.cmpi .eq (BitVec.ofNat 32 r.val) 0#32 = if r.val = 0 then 1#1 else 0#1 := by
  decide +kernel

theorem last_row : ∀ r : Fin 1024,
    IntOp.cmpi .eq (BitVec.ofNat 32 r.val) 1023#32 = if r.val = 1023 then 1#1 else 0#1 := by
  decide +kernel

theorem not_first : ∀ q : Fin 8, Scalar.cmpi .sgt (BitVec.ofNat 32 q.val) 0#32 = if q.val = 0 then 0#1 else 1#1 := by
  decide +kernel

theorem not_last : ∀ q : Fin 8, Scalar.cmpi .slt (BitVec.ofNat 32 q.val) 7#32 = if q.val = 7 then 0#1 else 1#1 := by
  decide +kernel

/-- Row block `q`'s rotated block, patched in its first row from the halo above, is the row before. -/
theorem before_block (q : ℕ) (hq : q < 8) (r : Fin 1024) (R : Fin 8192) (hR : R.val = q * 1024 + r.val)
    (f : Fin 8192 → EReal) (b : Fin 1024 → EReal) (e : EReal)
    (hb : ∀ (s : Fin 1024) (S : Fin 8192), S.val = q * 1024 + s.val → b s = f S)
    (he : ∀ S : Fin 8192, S.val + 1 = q * 1024 → e = f S) :
    Scalar.select (IntOp.cmpi .eq (BitVec.ofNat 32 r.val) 0#32)
      (Scalar.select (Scalar.cmpi .sgt (BitVec.ofNat 32 q) 0#32) e 0)
      (b ⟨(r.val + 1024 - 1) % 1024, Nat.mod_lt _ (by omega)⟩) = before f R := by
  rw [first_row r, not_first ⟨q, hq⟩]
  unfold before
  by_cases hr : r.val = 0
  · rw [if_pos hr]
    by_cases h0 : q = 0
    · rw [if_pos h0, dif_neg (by omega)]
      simp [Scalar.select]
    · rw [if_neg h0, dif_pos (by omega)]
      simp only [Scalar.select]
      exact he _ (by dsimp only; omega)
  · rw [if_neg hr, dif_pos (by omega)]
    simp only [Scalar.select]
    exact hb _ _ (by dsimp only; omega)

/-- Row block `q`'s block rotated the other way, patched in its last row from the halo below, is the row after. -/
theorem after_block (q : ℕ) (hq : q < 8) (r : Fin 1024) (R : Fin 8192) (hR : R.val = q * 1024 + r.val)
    (f : Fin 8192 → EReal) (b : Fin 1024 → EReal) (e : EReal)
    (hb : ∀ (s : Fin 1024) (S : Fin 8192), S.val = q * 1024 + s.val → b s = f S)
    (he : ∀ S : Fin 8192, S.val = (q + 1) * 1024 → e = f S) :
    Scalar.select (IntOp.cmpi .eq (BitVec.ofNat 32 r.val) 1023#32)
      (Scalar.select (Scalar.cmpi .slt (BitVec.ofNat 32 q) 7#32) e 0)
      (b ⟨(r.val + 1024 - 1023) % 1024, Nat.mod_lt _ (by omega)⟩) = after f R := by
  rw [last_row r, not_last ⟨q, hq⟩]
  unfold after
  by_cases hr : r.val = 1023
  · rw [if_pos hr]
    by_cases h0 : q = 7
    · rw [if_pos h0, dif_neg (by omega)]
      simp [Scalar.select]
    · rw [if_neg h0, dif_pos (by omega)]
      simp only [Scalar.select]
      exact he _ (by dsimp only; omega)
  · rw [if_neg hr, dif_pos (by omega)]
    simp only [Scalar.select]
    exact hb _ _ (by dsimp only; omega)

/-- The host's padded row before. -/
theorem before_pad (f : Fin 8192 → EReal) (r : Fin 8192) :
    (if h : 1 ≤ r.val ∧ r.val - 1 < 8192 then f ⟨r.val - 1, h.2⟩ else FloatOps.sitofp (F := Ideal) .f32 0#32)
      = before f r := by
  unfold before
  by_cases h : 1 ≤ r.val
  · rw [dif_pos h, dif_pos ⟨h, by omega⟩]
  · rw [dif_neg h, dif_neg (by omega), pad_zero]

/-- The host's padded row after. -/
theorem after_pad (f : Fin 8192 → EReal) (r : Fin 8192) :
    (if h : 1 ≤ 2 + r.val ∧ 2 + r.val - 1 < 8192 then f ⟨2 + r.val - 1, h.2⟩ else FloatOps.sitofp (F := Ideal) .f32 0#32)
      = after f r := by
  unfold after
  by_cases h : r.val + 1 < 8192
  · rw [dif_pos h, dif_pos (by omega)]
    congr 2
    omega
  · rw [dif_neg h, dif_neg (by omega), pad_zero]

end Cert.Conv
-- ==== Proof.FfnDown.lean ====
/- The feed-forward's second half: the gate's three-tap convolution and its bias through silu, times the values, times
   `w_down`, gated and added to the residual stream. -/
module

public import proofs.«01_k».proof.Defs
public import proofs.«01_k».proof.Proof.Gen.FfnDownIdeal.Value
public import proofs.«01_k».proof.Proof.Gen.FfnDownRefIdeal.Read
public import proofs.«01_k».proof.Proof.Tiles
public import proofs.«01_k».proof.Proof.Conv
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnDownIdeal.Final

open Cert.FfnDownIdeal Cert.FfnDownIdeal.Gen Cert.Tiles Cert.Conv

/-- The block index of every window at every grid point, and the row block the point is in. -/
theorem idx : ∀ t : Fin cfg0.N, win0_0.index t = ![t.val / 11, t.val % 11] ∧ win0_1.index t = ![64 * (t.val / 11) - 1, t.val % 11]
    ∧ win0_2.index t = ![min (64 * (t.val / 11) + 64) 511, t.val % 11] ∧ win0_3.index t = ![t.val / 11, t.val % 11]
    ∧ win0_4.index t = ![0, 0, t.val % 11] ∧ win0_5.index t = ![0, 0, t.val % 11] ∧ win0_6.index t = ![0, t.val % 11, 0]
    ∧ win0_7.index t = ![t.val / 11, 0] ∧ win0_8.index t = ![0, 0, 5] ∧ win0_9.index t = ![t.val / 11, 0]
    ∧ (grid0.coords t 0).val = t.val / 11 ∧ t.val / 11 < 8 :=
  (by decide +kernel : ∀ t : Fin grid0.N, _)

/-- The gate at row `r`, channel `k`: the three taps of the convolution and the bias. -/
def gateAt (g : FVec Ideal S8192x5632 .bf16) (cw : FVec Ideal S4x3x5632 .f32) (cb : FVec Ideal S4x5632 .f32)
    (r : Fin 8192) (k : Fin 5632) : EReal :=
  taps (fun S => g (ix2 S k)) (cw (ix3 0 0 k)) (cw (ix3 0 1 k)) (cw (ix3 0 2 k)) r + cb (ix2 0 k)

/-- The product's summand at row `r`, column `j`: silu of the gate at channel `k`, times the value, times the weight. -/
def lane (g v : FVec Ideal S8192x5632 .bf16) (cw : FVec Ideal S4x3x5632 .f32) (cb : FVec Ideal S4x5632 .f32)
    (w : FVec Ideal S4x5632x2048 .f32) (r : Fin 8192) (j : Fin 2048) (k : Fin 5632) : EReal :=
  gateAt g cw cb r k * Ideal.logistic (gateAt g cw cb r k) * v (ix2 r k) * w (ix3 0 k j)

/-- The result at row `r`, column `j`: the residual plus the gate (chunk 5 of `mod`) times the product. -/
def outAt (g v : FVec Ideal S8192x5632 .bf16) (cw : FVec Ideal S4x3x5632 .f32) (cb : FVec Ideal S4x5632 .f32)
    (w : FVec Ideal S4x5632x2048 .f32) (x : FVec Ideal S8192x2048 .f32) (md : FVec Ideal S4x8x12288 .f32)
    (r : Fin 8192) (j : Fin 2048) : EReal :=
  x (ix2 r j) + md (ix3 0 0 ⟨10240 + j.val, by omega⟩) * ∑ k : Fin 5632, lane g v cw cb w r j k

/-- The later points add their part to what the block holds. -/
theorem pay2_at (a b : FVec Ideal S1024x512 .f32) (w2 b2 : FVec Ideal S1x1x512 .f32) (v : FVec Ideal S1024x512 .bf16)
    (w : FVec Ideal S1x512x2048 .f32) (acc : FVec Ideal S1024x2048 .f32) (r : Fin 1024) (j : Fin 2048) :
    k0_pay2 (F := Ideal) a b w2 b2 v w acc (ix2 r j)
      = acc (ix2 r j) + k0_pay1 (F := Ideal) a b w2 b2 v w (ix2 r j) := by
  pointwise [k0_pay2]

/-- The last point gates the sum and adds the residual. -/
theorem pay3_at (x : FVec Ideal S1024x2048 .f32) (g : FVec Ideal S1x1x2048 .f32) (acc : FVec Ideal S1024x2048 .f32)
    (r : Fin 1024) (j : Fin 2048) :
    k0_pay3 (F := Ideal) x g acc (ix2 r j) = x (ix2 r j) + g (ix3 0 0 j) * acc (ix2 r j) := by
  pointwise [k0_pay3]

variable (m : (ℓ : Loc nD τ sig) → Buf (Elt Ideal) ℓ)

/-- A point's part is its tile of the whole sum: `pv`, `nv` the halo rows it loads, `w0`, `w1`, `w2` its taps. -/
theorem part_at (c : Dev nD) (t : Fin cfg0.N) (pv nv : FVec Ideal S1x512 .bf16) (w0 w1 w2 : FVec Ideal S1x1x512 .f32)
    (r : Fin 1024) (j : Fin 2048) (R : Fin 8192) (hR : R.val = t.val / 11 * 1024 + r.val)
    (hpv : ∀ (k : Fin 512) (S : Fin 8192) (K : Fin 5632), S.val + 1 = t.val / 11 * 1024 → K.val = t.val % 11 * 512 + k.val →
      pv (ix2 0 k) = (m ((c : Thread nD τ).loc main_arg0) : FVec Ideal S8192x5632 .bf16) (ix2 S K))
    (hnv : ∀ (k : Fin 512) (S : Fin 8192) (K : Fin 5632), S.val = (t.val / 11 + 1) * 1024 → K.val = t.val % 11 * 512 + k.val →
      nv (ix2 0 k) = (m ((c : Thread nD τ).loc main_arg0) : FVec Ideal S8192x5632 .bf16) (ix2 S K))
    (h0 : ∀ (k : Fin 512) (K : Fin 5632), K.val = t.val % 11 * 512 + k.val →
      w0 (ix3 0 0 k) = (m ((c : Thread nD τ).loc main_arg2) : FVec Ideal S4x3x5632 .f32) (ix3 0 0 K))
    (h1 : ∀ (k : Fin 512) (K : Fin 5632), K.val = t.val % 11 * 512 + k.val →
      w1 (ix3 0 0 k) = (m ((c : Thread nD τ).loc main_arg2) : FVec Ideal S4x3x5632 .f32) (ix3 0 1 K))
    (h2 : ∀ (k : Fin 512) (K : Fin 5632), K.val = t.val % 11 * 512 + k.val →
      w2 (ix3 0 0 k) = (m ((c : Thread nD τ).loc main_arg2) : FVec Ideal S4x3x5632 .f32) (ix3 0 2 K)) :
    k0_pay1 (F := Ideal) (k0_pay5 (F := Ideal) (grid0.coords t) nv (iblk m c 0 t))
      (k0_pay6 (F := Ideal) (grid0.coords t) pv (iblk m c 0 t) w0 w1) w2 (iblk m c 5 t) (iblk m c 3 t) (iblk m c 6 t) (ix2 r j)
      = tile 512 (lane (m ((c : Thread nD τ).loc main_arg0)) (m ((c : Thread nD τ).loc main_arg1)) (m ((c : Thread nD τ).loc main_arg2)) (m ((c : Thread nD τ).loc main_arg3)) (m ((c : Thread nD τ).loc main_arg4)) R j) (t.val % 11) := by
  pointwise [k0_pay1, k0_pay4, k0_pay5, k0_pay6]
  unfold tile
  refine Fin.sum_fin_congr fun k => ?_
  have hK : t.val % 11 * 512 + k.val < 5632 := by omega
  rw [dif_pos hK]
  have hq : t.val / 11 < 8 := (idx t).2.2.2.2.2.2.2.2.2.2.2
  have hb : ∀ (s : Fin 1024) (S : Fin 8192), S.val = t.val / 11 * 1024 + s.val →
      @Eq EReal (iblk m c 0 t (ix2 s k)) ((m ((c : Thread nD τ).loc main_arg0) : FVec Ideal S8192x5632 .bf16) (ix2 S ⟨_, hK⟩)) := by
    intro s S hS
    blk_ext [iblk, V, idx t]
  rw [(idx t).2.2.2.2.2.2.2.2.2.2.1]
  have hbias : @Eq EReal (iblk m c 5 t (ix3 0 0 k)) ((m ((c : Thread nD τ).loc main_arg3) : FVec Ideal S4x5632 .f32) (ix2 0 ⟨_, hK⟩)) := by
    blk_ext! [iblk, V, idx t]
  have hgate := Ideal.add_congr (Ideal.add_congr (Ideal.add_congr (Ideal.mul_congr
    (before_block (t.val / 11) hq r R hR (fun S => (m ((c : Thread nD τ).loc main_arg0) : FVec Ideal S8192x5632 .bf16) (ix2 S ⟨_, hK⟩))
      (fun s => iblk m c 0 t (ix2 s k)) _ hb fun S hS => hpv k S _ hS rfl) (h0 k ⟨_, hK⟩ rfl)) (Ideal.mul_congr (hb r R hR) (h1 k ⟨_, hK⟩ rfl)))
    (Ideal.mul_congr (after_block (t.val / 11) hq r R hR (fun S => (m ((c : Thread nD τ).loc main_arg0) : FVec Ideal S8192x5632 .bf16) (ix2 S ⟨_, hK⟩))
      (fun s => iblk m c 0 t (ix2 s k)) _ hb fun S hS => hnv k S _ hS rfl) (h2 k ⟨_, hK⟩ rfl))) hbias
  refine Ideal.mul_congr (Ideal.mul_congr (Ideal.mul_congr hgate (congrArg Ideal.logistic hgate)) ?_) ?_
  all_goals blk_ext [iblk, V, idx t]

/-- A run's first point leaves its tile. -/
theorem first_at (c : Dev nD) (t : Fin cfg0.N) (h : t.val % 11 = 0) (r : Fin 1024) (j : Fin 2048) (R : Fin 8192)
    (hR : R.val = t.val / 11 * 1024 + r.val) :
    outsAt0 m c t.val t.isLt (ix2 r j) = tile 512 (lane (m ((c : Thread nD τ).loc main_arg0)) (m ((c : Thread nD τ).loc main_arg1)) (m ((c : Thread nD τ).loc main_arg2)) (m ((c : Thread nD τ).loc main_arg3)) (m ((c : Thread nD τ).loc main_arg4)) R j) 0 := by
  rw [outsAt0_A m c t (by omega) (by omega) (by omega)]
  frame_out
  refine (part_at m c t _ _ _ _ _ r j R hR
      (fun k S K hS hK => by pointwise; blk_ext [iblk, V, idx t]) (fun k S K hS hK => by pointwise; blk_ext [iblk, V, idx t])
      (fun k K hK => by pointwise; blk_ext [iblk, V, idx t]) (fun k K hK => by pointwise; blk_ext [iblk, V, idx t])
      (fun k K hK => by pointwise; blk_ext [iblk, V, idx t])).trans ?_
  rw [h]

/-- A later point adds its tile to what the block holds. -/
theorem step_at (c : Dev nD) (t : Fin cfg0.N) (h : t.val % 11 ≠ 0) (h' : t.val % 11 ≠ 11 - 1) (r : Fin 1024) (j : Fin 2048)
    (R : Fin 8192) (hR : R.val = t.val / 11 * 1024 + r.val) :
    outsAt0 m c t.val t.isLt (ix2 r j)
      = outsAt0 m c (t.val - 1) (Nat.lt_of_le_of_lt (Nat.sub_le _ _) t.isLt) (ix2 r j) + tile 512 (lane (m ((c : Thread nD τ).loc main_arg0)) (m ((c : Thread nD τ).loc main_arg1)) (m ((c : Thread nD τ).loc main_arg2)) (m ((c : Thread nD τ).loc main_arg3)) (m ((c : Thread nD τ).loc main_arg4)) R j) (t.val % 11) := by
  rw [outsAt0_B m c t (by omega) (by omega) (by omega)]
  frame_out
  rw [pay2_at]
  exact Ideal.add_congr rfl (part_at m c t _ _ _ _ _ r j R hR
      (fun k S K hS hK => by pointwise; blk_ext [iblk, V, idx t]) (fun k S K hS hK => by pointwise; blk_ext [iblk, V, idx t])
      (fun k K hK => by pointwise; blk_ext [iblk, V, idx t]) (fun k K hK => by pointwise; blk_ext [iblk, V, idx t])
      (fun k K hK => by pointwise; blk_ext [iblk, V, idx t]))

/-- What the block holds over the points of a run before the last: the tiles summed so far. -/
theorem acc_at (c : Dev nD) (q : ℕ) (r : Fin 1024) (j : Fin 2048) (R : Fin 8192) (hR : R.val = q * 1024 + r.val) :
    ∀ s, s < 11 - 1 → ∀ hn : q * 11 + s < cfg0.N, outsAt0 m c (q * 11 + s) hn (ix2 r j)
      = ∑ i ∈ Finset.range (s + 1), tile 512 (lane (m ((c : Thread nD τ).loc main_arg0)) (m ((c : Thread nD τ).loc main_arg1)) (m ((c : Thread nD τ).loc main_arg2)) (m ((c : Thread nD τ).loc main_arg3)) (m ((c : Thread nD τ).loc main_arg4)) R j) i := by
  refine acc_run (fun n h => outsAt0 m c n h (ix2 r j)) 11 q (tile 512 (lane (m ((c : Thread nD τ).loc main_arg0)) (m ((c : Thread nD τ).loc main_arg1)) (m ((c : Thread nD τ).loc main_arg2)) (m ((c : Thread nD τ).loc main_arg3)) (m ((c : Thread nD τ).loc main_arg4)) R j)) ?_ ?_
  · intro hn
    exact first_at m c ⟨q * 11, hn⟩ (by dsimp only; omega) r j R (by dsimp only; omega)
  · intro s hs hn
    refine (step_at m c ⟨q * 11 + (s + 1), hn⟩ (by dsimp only; omega) (by dsimp only; omega) r j R (by dsimp only; omega)).trans ?_
    rw [show (⟨q * 11 + (s + 1), hn⟩ : Fin cfg0.N).val % 11 = s + 1 by dsimp only; omega]
    rfl

/-- What the run's last point leaves, at a row and a column: the whole result there. -/
theorem last_at (c : Dev nD) (t : Fin cfg0.N) (ht : t.val % 11 = 11 - 1) (r : Fin 1024) (j : Fin 2048) (R : Fin 8192)
    (C : Fin 2048) (hR : R.val = t.val / 11 * 1024 + r.val) (hC : C.val = j.val) :
    outsAt0 m c t.val t.isLt (ix2 r j) = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R C := by
  obtain rfl : j = C := Fin.ext hC.symm
  rw [outsAt0_C m c t (by omega) (by omega) (by omega)]
  frame_out
  rw [pay3_at, pay2_at]
  have e := acc_at m c (t.val / 11) r j R hR (11 - 2) (by omega) (by have := t.isLt; omega)
  have e' : outsAt0 m c (t.val - 1) (Nat.lt_of_le_of_lt (Nat.sub_le _ _) t.isLt) (ix2 r j)
      = ∑ i ∈ Finset.range (11 - 1), tile 512 (lane (m ((c : Thread nD τ).loc main_arg0)) (m ((c : Thread nD τ).loc main_arg1)) (m ((c : Thread nD τ).loc main_arg2)) (m ((c : Thread nD τ).loc main_arg3)) (m ((c : Thread nD τ).loc main_arg4)) R j) i := by
    refine Eq.trans ?_ e
    congr 1
    simp only [show t.val - 1 = t.val / 11 * 11 + (11 - 2) by omega]
  refine (Ideal.add_congr rfl (Ideal.mul_congr rfl (Ideal.add_congr rfl (part_at m c t _ _ _ _ _ r j R hR
      (fun k S K hS hK => by pointwise; blk_ext [iblk, V, idx t]) (fun k S K hS hK => by pointwise; blk_ext [iblk, V, idx t])
      (fun k K hK => by pointwise; blk_ext [iblk, V, idx t]) (fun k K hK => by pointwise; blk_ext [iblk, V, idx t])
      (fun k K hK => by pointwise; blk_ext [iblk, V, idx t]))))).trans ?_
  rw [ht, e', ← Finset.sum_range_succ _ (11 - 1), sum_tile 11 512 5632 rfl]
  unfold outAt
  pointwise
  blk_point [iblk, V, idx t]

/-- The result array after the run. -/
theorem final (c : Dev nD) : (dats m 0 c).arrAt 9 (cfgs 0).N
    = fun i : S8192x2048.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 9 _ (by decide +kernel) fun t hf y => ?_
  blk_simp
  rw [after0_9]
  refine (congrArg _ (eq_ix2 y)).trans (last_at m c t ((flush0_9 t).mp hf) (y 0) (y 1) _ _ ?_ ?_)
  all_goals blk_simp [idx t] <;> (try dsimp only) <;> try omega

/-- The reference's result, read at a row and a column. -/
theorem ref_at (x0 x1 : FVec Ideal Cert.FfnDownRefIdeal.S8192x5632 .bf16) (x2 : FVec Ideal Cert.FfnDownRefIdeal.S4x3x5632 .f32)
    (x3 : FVec Ideal Cert.FfnDownRefIdeal.S4x5632 .f32) (x4 : FVec Ideal Cert.FfnDownRefIdeal.S4x5632x2048 .f32) (x5 : FVec Ideal Cert.FfnDownRefIdeal.S8192x2048 .f32)
    (x6 : FVec Ideal Cert.FfnDownRefIdeal.S4x8x12288 .f32)
    (j : Cert.FfnDownRefIdeal.S8192x2048.Idx) :
    Cert.FfnDownRefIdeal.Read.val_main_v46 (F := Ideal) x0 x1 x2 x3 x4 x5 x6 j = outAt x0 x1 x2 x3 x4 x5 x6 (j 0) (j 1) := by
  pointwise [Cert.FfnDownRefIdeal.Read.val_main_v46, Cert.FfnDownRefIdeal.Read.val_main_v45, Cert.FfnDownRefIdeal.Read.val_main_v44, Cert.FfnDownRefIdeal.Read.val_main_v43, Cert.FfnDownRefIdeal.Read.val_main_v42, Cert.FfnDownRefIdeal.Read.val_main_v41, Cert.FfnDownRefIdeal.Read.val_main_v40, Cert.FfnDownRefIdeal.Read.val_main_v39, Cert.FfnDownRefIdeal.Read.val_main_v38, Cert.FfnDownRefIdeal.Read.val_main_v37, Cert.FfnDownRefIdeal.Read.val_main_call1_v5, Cert.FfnDownRefIdeal.Read.val_main_call1_v4, Cert.FfnDownRefIdeal.Read.val_main_call1_cst_0, Cert.FfnDownRefIdeal.Read.val_main_call1_v3, Cert.FfnDownRefIdeal.Read.val_main_call1_v2, Cert.FfnDownRefIdeal.Read.val_main_call1_cst, Cert.FfnDownRefIdeal.Read.val_main_call1_v1, Cert.FfnDownRefIdeal.Read.val_main_call1_v0, Cert.FfnDownRefIdeal.Read.val_main_v36, Cert.FfnDownRefIdeal.Read.val_main_v35, Cert.FfnDownRefIdeal.Read.val_main_v34, Cert.FfnDownRefIdeal.Read.val_main_v33, Cert.FfnDownRefIdeal.Read.val_main_v32, Cert.FfnDownRefIdeal.Read.val_main_v31, Cert.FfnDownRefIdeal.Read.val_main_v30, Cert.FfnDownRefIdeal.Read.val_main_v29, Cert.FfnDownRefIdeal.Read.val_main_v28, Cert.FfnDownRefIdeal.Read.val_main_v27, Cert.FfnDownRefIdeal.Read.val_main_v26, Cert.FfnDownRefIdeal.Read.val_main_v25, Cert.FfnDownRefIdeal.Read.val_main_v24, Cert.FfnDownRefIdeal.Read.val_main_v23, Cert.FfnDownRefIdeal.Read.val_main_v22, Cert.FfnDownRefIdeal.Read.val_main_v21, Cert.FfnDownRefIdeal.Read.val_main_v20, Cert.FfnDownRefIdeal.Read.val_main_v19, Cert.FfnDownRefIdeal.Read.val_main_v18, Cert.FfnDownRefIdeal.Read.val_main_v17, Cert.FfnDownRefIdeal.Read.val_main_v16, Cert.FfnDownRefIdeal.Read.val_main_v15, Cert.FfnDownRefIdeal.Read.val_main_v14, Cert.FfnDownRefIdeal.Read.val_main_v13, Cert.FfnDownRefIdeal.Read.val_main_v12, Cert.FfnDownRefIdeal.Read.val_main_v11, Cert.FfnDownRefIdeal.Read.val_main_call0_v0, Cert.FfnDownRefIdeal.Read.val_main_c, Cert.FfnDownRefIdeal.Read.val_main_v10, Cert.FfnDownRefIdeal.Read.val_main_v9, Cert.FfnDownRefIdeal.Read.val_main_v8, Cert.FfnDownRefIdeal.Read.val_main_v7, Cert.FfnDownRefIdeal.Read.val_main_v6, Cert.FfnDownRefIdeal.Read.val_main_v5, Cert.FfnDownRefIdeal.Read.val_main_v4, Cert.FfnDownRefIdeal.Read.val_main_v3, Cert.FfnDownRefIdeal.Read.val_main_v2, Cert.FfnDownRefIdeal.Read.val_main_v1, Cert.FfnDownRefIdeal.Read.val_main_v0]
  unfold outAt lane gateAt taps Ideal.logistic
  refine Ideal.add_congr (congrArg x5 (eq_ix2 j)) (Ideal.mul_congr rfl (Fin.sum_fin_congr fun k => ?_))
  refine Ideal.mul_congr (Ideal.mul_congr (Ideal.mul_congr ?_ (congrArg (fun z => Ideal.div 1 (1 + Ideal.exp (-z))) ?_)) rfl) rfl
  all_goals exact Ideal.add_congr (Ideal.add_congr (Ideal.add_congr (Ideal.mul_congr
    (before_pad (fun S => x0 (ix2 S k)) (j 0)) rfl) rfl) (Ideal.mul_congr (after_pad (fun S => x0 (ix2 S k)) (j 0)) rfl)) rfl

/-- The kernel's result is the reference's, at every index. -/
theorem algebraic : Cert.algebraic_FfnDownIdeal_FfnDownRefIdeal := by
  pair_intro
  · run_from Cert.FfnDownIdeal.Gen.run_main m g
  · hlo_run
    exact (rfl : _ = Cert.FfnDownRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).trans
      ((funext fun i => ref_at _ _ _ _ _ _ _ i).trans (final m c).symm)

end Cert.FfnDownIdeal.Final
-- ==== Proof.ConvIn.lean ====
/- The convolution block's first half: `rms_norm`, the shift and scale of `mod`, the product with `w_in`, and the two
   results the block goes on with: the output gate, and the input gate times the value. -/
module

public import proofs.«01_k».proof.Proof.Gen.ConvInIdeal.Value
public import proofs.«01_k».proof.Proof.Gen.ConvInRefIdeal.Read
public import proofs.«01_k».proof.Defs
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvInIdeal.Final

open Cert.ConvInIdeal Cert.ConvInIdeal.Gen

/-- Row `r`, lane `k` of the modulated activations: the row over its root mean square, times one plus the scale
    (chunk 1 of `mod`'s second layer), plus the shift (chunk 0). -/
def hAt (x : FVec Ideal S8192x2048 .f32) (md : FVec Ideal S4x8x12288 .f32) (r : Fin 8192) (k : Fin 2048) : EReal :=
  x (ix2 r k) * Ideal.rsqrt (Ideal.div (∑ l : Fin 2048, x (ix2 r l) * x (ix2 r l)) (Ideal.ofBits .f32 0x45000000#32)
      + Ideal.ofBits .f32 0x358637BD#32)
    * (1 + md (ix3 1 0 ⟨2048 + k.val, by omega⟩)) + md (ix3 1 0 ⟨k.val, by omega⟩)

/-- Entry `(r, n)` of the whole product: the modulated row against column `n` of `w_in`. -/
def inAt (x : FVec Ideal S8192x2048 .f32) (md : FVec Ideal S4x8x12288 .f32) (w : FVec Ideal S2x2048x6144 .f32)
    (r : Fin 8192) (n : Fin 6144) : EReal :=
  ∑ k : Fin 2048, hAt x md r k * w (ix3 0 k n)

/-- The block index of every window at every grid point. -/
theorem idx : ∀ t : Fin cfg0.N, win0_0.index t = ![t.val / 8, 0] ∧ win0_1.index t = ![1, 0, 0]
    ∧ win0_2.index t = ![1, 0, 1] ∧ win0_3.index t = ![0, 0, t.val % 8] ∧ win0_4.index t = ![0, 0, 8 + t.val % 8]
    ∧ win0_5.index t = ![0, 0, 16 + t.val % 8]
    ∧ win0_6.index t = ![t.val / 8, t.val % 8] ∧ win0_7.index t = ![t.val / 8, t.val % 8] ∧ t.val / 8 < 8 :=
  (by decide +kernel : ∀ t : Fin grid0.N, _)

/-- What the modulation stores, read at a row and a lane. -/
theorem pay1_at (x : FVec Ideal S1024x2048 .f32) (sc sh : FVec Ideal S1x1x2048 .f32) (r : Fin 1024) (k : Fin 2048) :
    k0_pay1 (F := Ideal) x sc sh (ix2 r k)
      = x (ix2 r k) * Ideal.rsqrt (Ideal.div (∑ l : Fin 2048, x (ix2 r l) * x (ix2 r l)) (Ideal.ofBits .f32 0x45000000#32)
      + Ideal.ofBits .f32 0x358637BD#32) * (1 + sc (ix3 0 0 k)) + sh (ix3 0 0 k) := by
  pointwise [k0_pay1]

/-- What the gate's product stores, read at a row and a column. -/
theorem pay2_at (h : FVec Ideal S1024x2048 .bf16) (w : FVec Ideal S1x2048x256 .f32) (r : Fin 1024) (n : Fin 256) :
    k0_pay2 (F := Ideal) h w (ix2 r n) = ∑ k : Fin 2048, h (ix2 r k) * w (ix3 0 k n) := by
  pointwise [k0_pay2]

/-- The second store: the product with the input gate's columns times the product with the value's. -/
theorem pay3_at (h : FVec Ideal S1024x2048 .bf16) (w v : FVec Ideal S1x2048x256 .f32) (r : Fin 1024) (n : Fin 256) :
    k0_pay3 (F := Ideal) h w v (ix2 r n)
      = (∑ k : Fin 2048, h (ix2 r k) * w (ix3 0 k n)) * ∑ k : Fin 2048, h (ix2 r k) * v (ix3 0 k n) := by
  pointwise [k0_pay3]

variable (m : (ℓ : Loc nD τ sig) → Buf (Elt Ideal) ℓ)

/-- At the other points it is what the point before left. -/
theorem scratch_B (c : Dev nD) (t : Fin cfg0.N) (h : ¬t.val % 8 = 0) :
    (outsAt0 m c t.val t.isLt).2.2
      = (outsAt0 m c (t.val - 1) (Nat.lt_of_le_of_lt (Nat.sub_le _ _) t.isLt)).2.2 := by
  rw [outsAt0_B m c t h]
  dsimp only
  unfold sout0_B_0
  rfl

/-- At the first point of a row block the scratch takes the modulated rows of the block. -/
theorem scratch_A (c : Dev nD) (t : Fin cfg0.N) (h : t.val % 8 = 0) (r : Fin 1024) (k : Fin 2048) (R : Fin 8192)
    (hR : R.val = t.val / 8 * 1024 + r.val) :
    (outsAt0 m c t.val t.isLt).2.2 (ix2 r k)
      = hAt (m ((c : Thread nD τ).loc main_arg0)) (m ((c : Thread nD τ).loc main_arg1)) R k := by
  rw [outsAt0_A m c t h]
  frame_out
  rw [pay1_at]
  pointwise [hAt]
  blk_point [iblk, V, idx t]

/-- After any point the scratch holds the modulated rows of the point's row block. -/
theorem scratch_at (c : Dev nD) (n : ℕ) : ∀ (hn : n < cfg0.N) (r : Fin 1024) (k : Fin 2048) (R : Fin 8192),
    R.val = n / 8 * 1024 + r.val →
    (outsAt0 m c n hn).2.2 (ix2 r k)
      = hAt (m ((c : Thread nD τ).loc main_arg0)) (m ((c : Thread nD τ).loc main_arg1)) R k := by
  induction n with
  | zero =>
    intro hn r k R hR
    exact scratch_A m c ⟨0, hn⟩ rfl r k R hR
  | succ n ih =>
    intro hn r k R hR
    by_cases h : (n + 1) % 8 = 0
    · exact scratch_A m c ⟨n + 1, hn⟩ h r k R hR
    · rw [scratch_B m c ⟨n + 1, hn⟩ h]
      exact ih (Nat.lt_of_succ_lt hn) r k R (by omega)

/-- The gate's block is the gate product over the scratch. -/
theorem gate_eq (c : Dev nD) (t : Fin cfg0.N) :
    (outsAt0 m c t.val t.isLt).1 = k0_pay2 (F := Ideal) (outsAt0 m c t.val t.isLt).2.2 (iblk m c 3 t) := by
  by_cases h : t.val % 8 = 0
  · rw [outsAt0_A m c t h]
    frame_out
  · rw [scratch_B m c t h, outsAt0_B m c t h]
    frame_out
    exact congrArg (fun z => k0_pay2 (F := Ideal) z (iblk m c 3 t)) (Memref.IsWhole.read_unread _ _)

/-- The second result's block is the two products over the scratch, multiplied. -/
theorem val_eq (c : Dev nD) (t : Fin cfg0.N) :
    (outsAt0 m c t.val t.isLt).2.1
      = k0_pay3 (F := Ideal) (outsAt0 m c t.val t.isLt).2.2 (iblk m c 4 t) (iblk m c 5 t) := by
  by_cases h : t.val % 8 = 0
  · rw [outsAt0_A m c t h]
    frame_out
  · rw [scratch_B m c t h, outsAt0_B m c t h]
    frame_out
    exact congrArg (fun z => k0_pay3 (F := Ideal) z (iblk m c 4 t) (iblk m c 5 t)) (Memref.IsWhole.read_unread _ _)

/-- The gate's block at a row and a column: the whole product there. -/
theorem gate_at (c : Dev nD) (t : Fin cfg0.N) (r : Fin 1024) (n : Fin 256) (R : Fin 8192) (N : Fin 6144)
    (hR : R.val = t.val / 8 * 1024 + r.val) (hN : N.val = t.val % 8 * 256 + n.val) :
    k0_pay2 (F := Ideal) (outsAt0 m c t.val t.isLt).2.2 (iblk m c 3 t) (ix2 r n)
      = inAt (m ((c : Thread nD τ).loc main_arg0)) (m ((c : Thread nD τ).loc main_arg1))
          (m ((c : Thread nD τ).loc main_arg2)) R N := by
  rw [pay2_at]
  unfold inAt
  refine Fin.sum_fin_congr fun k => ?_
  refine Ideal.mul_congr (scratch_at m c t.val t.isLt r k R hR) ?_
  blk_ext [iblk, V, idx t]

/-- The second result's block at a row and a column: the two products there, multiplied. -/
theorem val_at (c : Dev nD) (t : Fin cfg0.N) (r : Fin 1024) (n : Fin 256) (R : Fin 8192) (N N' : Fin 6144)
    (hR : R.val = t.val / 8 * 1024 + r.val) (hN : N.val = 2048 + t.val % 8 * 256 + n.val)
    (hN' : N'.val = 4096 + t.val % 8 * 256 + n.val) :
    k0_pay3 (F := Ideal) (outsAt0 m c t.val t.isLt).2.2 (iblk m c 4 t) (iblk m c 5 t) (ix2 r n)
      = inAt (m ((c : Thread nD τ).loc main_arg0)) (m ((c : Thread nD τ).loc main_arg1))
          (m ((c : Thread nD τ).loc main_arg2)) R N
        * inAt (m ((c : Thread nD τ).loc main_arg0)) (m ((c : Thread nD τ).loc main_arg1))
          (m ((c : Thread nD τ).loc main_arg2)) R N' := by
  rw [pay3_at]
  unfold inAt
  refine Ideal.mul_congr ?_ ?_
  all_goals
    refine Fin.sum_fin_congr fun k => ?_
    refine Ideal.mul_congr (scratch_at m c t.val t.isLt r k R hR) ?_
    blk_ext [iblk, V, idx t]

/-- The gate array after the run: the first third of the product's columns. -/
theorem final6 (c : Dev nD) : (dats m 0 c).arrAt 6 (cfgs 0).N
    = fun i : S8192x2048.Idx => inAt (m ((c : Thread nD τ).loc main_arg0)) (m ((c : Thread nD τ).loc main_arg1))
        (m ((c : Thread nD τ).loc main_arg2)) (i 0) ⟨(i 1).val, by have : (i 1).val < 2048 := (i 1).isLt; omega⟩ := by
  refine (dats m 0 c).arrAt_eq_of_covers 6 _ (by decide +kernel) fun t _ y => ?_
  blk_simp
  rw [after0_6, gate_eq]
  refine (congrArg _ (eq_ix2 y)).trans (gate_at m c t (y 0) (y 1) _ _ ?_ ?_)
  all_goals blk_simp [idx t] <;> (try dsimp only) <;> try omega

/-- The second array after the run: the second third of the product's columns times the last third. -/
theorem final7 (c : Dev nD) : (dats m 0 c).arrAt 7 (cfgs 0).N
    = fun i : S8192x2048.Idx => inAt (m ((c : Thread nD τ).loc main_arg0)) (m ((c : Thread nD τ).loc main_arg1))
        (m ((c : Thread nD τ).loc main_arg2)) (i 0) ⟨2048 + (i 1).val, by have : (i 1).val < 2048 := (i 1).isLt; omega⟩
      * inAt (m ((c : Thread nD τ).loc main_arg0)) (m ((c : Thread nD τ).loc main_arg1))
        (m ((c : Thread nD τ).loc main_arg2)) (i 0) ⟨4096 + (i 1).val, by have : (i 1).val < 2048 := (i 1).isLt; omega⟩ := by
  refine (dats m 0 c).arrAt_eq_of_covers 7 _ (by decide +kernel) fun t _ y => ?_
  blk_simp
  rw [after0_7, val_eq]
  refine (congrArg _ (eq_ix2 y)).trans (val_at m c t (y 0) (y 1) _ _ _ ?_ ?_ ?_)
  all_goals blk_simp [idx t] <;> (try dsimp only) <;> try omega

/-- The reference's first result, read at a row and a column. -/
theorem ref_gate (x0 : FVec Ideal Cert.ConvInRefIdeal.S8192x2048 .f32) (x1 : FVec Ideal Cert.ConvInRefIdeal.S4x8x12288 .f32)
    (x2 : FVec Ideal Cert.ConvInRefIdeal.S2x2048x6144 .f32) (j : Cert.ConvInRefIdeal.S8192x2048.Idx) :
    Cert.ConvInRefIdeal.Read.val_main_v32 (F := Ideal) x0 x1 x2 j
      = inAt x0 x1 x2 (j 0) ⟨(j 1).val, by have : (j 1).val < 2048 := (j 1).isLt; omega⟩ := by
  rw [← Cert.ConvInRefIdeal.Read.val_main_v32_eq]
  pointwise [inAt, hAt]

/-- The reference's second result, read at a row and a column. -/
theorem ref_val (x0 : FVec Ideal Cert.ConvInRefIdeal.S8192x2048 .f32) (x1 : FVec Ideal Cert.ConvInRefIdeal.S4x8x12288 .f32)
    (x2 : FVec Ideal Cert.ConvInRefIdeal.S2x2048x6144 .f32) (j : Cert.ConvInRefIdeal.S8192x2048.Idx) :
    Cert.ConvInRefIdeal.Read.val_main_v34 (F := Ideal) x0 x1 x2 j
      = inAt x0 x1 x2 (j 0) ⟨2048 + (j 1).val, by have : (j 1).val < 2048 := (j 1).isLt; omega⟩
        * inAt x0 x1 x2 (j 0) ⟨4096 + (j 1).val, by have : (j 1).val < 2048 := (j 1).isLt; omega⟩ := by
  rw [← Cert.ConvInRefIdeal.Read.val_main_v34_eq]
  pointwise [inAt, hAt]

/-- The kernel's two results are the reference's two, at every index. -/
theorem algebraic : Cert.algebraic_ConvInIdeal_ConvInRefIdeal := by
  pair_intro
  · run_from Cert.ConvInIdeal.Gen.run_main m g
  · hlo_run
    · exact (Cert.ConvInRefIdeal.Read.val_main_v32_eq (F := Ideal) _ _ _).trans
        ((funext fun i => ref_gate _ _ _ i).trans (final6 m c).symm)
    · exact (Cert.ConvInRefIdeal.Read.val_main_v34_eq (F := Ideal) _ _ _).trans
        ((funext fun i => ref_val _ _ _ i).trans (final7 m c).symm)

end Cert.ConvInIdeal.Final
-- ==== Proof.ConvOut.lean ====
/- The convolution block's output: the gated three-tap convolution times `w_out`, gated and added to the residual
   stream. -/
module

public import proofs.«01_k».proof.Defs
public import proofs.«01_k».proof.Proof.Gen.ConvOutIdeal.Value
public import proofs.«01_k».proof.Proof.Gen.ConvOutRefIdeal.Read
public import proofs.«01_k».proof.Proof.Tiles
public import proofs.«01_k».proof.Proof.Conv
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvOutIdeal.Final

open Cert.ConvOutIdeal Cert.ConvOutIdeal.Gen Cert.Tiles Cert.Conv

/-- The block index of every window at every grid point, and the row block the point is in. -/
theorem idx : ∀ t : Fin cfg0.N, win0_0.index t = ![t.val / 4, t.val % 4] ∧ win0_1.index t = ![t.val / 4, t.val % 4]
    ∧ win0_2.index t = ![64 * (t.val / 4) - 1, t.val % 4] ∧ win0_3.index t = ![min (64 * (t.val / 4) + 64) 511, t.val % 4]
    ∧ win0_4.index t = ![0, 0, t.val % 4] ∧ win0_5.index t = ![0, t.val % 4, 0] ∧ win0_6.index t = ![t.val / 4, 0]
    ∧ win0_7.index t = ![1, 0, 2] ∧ win0_8.index t = ![t.val / 4, 0] ∧ (grid0.coords t 0).val = t.val / 4 ∧ t.val / 4 < 8 :=
  (by decide +kernel : ∀ t : Fin grid0.N, _)

/-- The product's summand at row `r`, column `j`: lane `k` of the gated convolution times that row of the weights. -/
def lane (gb p : FVec Ideal S8192x2048 .bf16) (cw : FVec Ideal S2x3x2048 .f32) (w : FVec Ideal S2x2048x2048 .f32)
    (r : Fin 8192) (j : Fin 2048) (k : Fin 2048) : EReal :=
  gb (ix2 r k) * taps (fun S => p (ix2 S k)) (cw (ix3 0 0 k)) (cw (ix3 0 1 k)) (cw (ix3 0 2 k)) r * w (ix3 0 k j)

/-- The result at row `r`, column `j`: the residual plus the gate (layer 1, chunk 2 of `mod`) times the product. -/
def outAt (gb p : FVec Ideal S8192x2048 .bf16) (cw : FVec Ideal S2x3x2048 .f32) (w : FVec Ideal S2x2048x2048 .f32)
    (x : FVec Ideal S8192x2048 .f32) (md : FVec Ideal S4x8x12288 .f32) (r : Fin 8192) (j : Fin 2048) : EReal :=
  x (ix2 r j) + md (ix3 1 0 ⟨4096 + j.val, by omega⟩) * ∑ k : Fin 2048, lane gb p cw w r j k

/-- The later points add their part to what the block holds. -/
theorem pay2_at (a b d : FVec Ideal S1024x512 .f32) (w2 : FVec Ideal S1x1x512 .f32) (w : FVec Ideal S1x512x2048 .f32)
    (acc : FVec Ideal S1024x2048 .f32) (r : Fin 1024) (j : Fin 2048) :
    k0_pay2 (F := Ideal) a b d w2 w acc (ix2 r j) = acc (ix2 r j) + k0_pay1 (F := Ideal) a b d w2 w (ix2 r j) := by
  pointwise [k0_pay2]

/-- The last point gates the sum and adds the residual. -/
theorem pay3_at (x : FVec Ideal S1024x2048 .f32) (g : FVec Ideal S1x1x2048 .f32) (acc : FVec Ideal S1024x2048 .f32)
    (r : Fin 1024) (j : Fin 2048) :
    k0_pay3 (F := Ideal) x g acc (ix2 r j) = x (ix2 r j) + g (ix3 0 0 j) * acc (ix2 r j) := by
  pointwise [k0_pay3]

variable (m : (ℓ : Loc nD τ sig) → Buf (Elt Ideal) ℓ)

/-- A point's part is its tile of the whole sum: `pv`, `nv` the halo rows it loads, `w0`, `w1`, `w2` its taps. -/
theorem part_at (c : Dev nD) (t : Fin cfg0.N) (pv nv : FVec Ideal S1x512 .bf16) (w0 w1 w2 : FVec Ideal S1x1x512 .f32)
    (r : Fin 1024) (j : Fin 2048) (R : Fin 8192) (hR : R.val = t.val / 4 * 1024 + r.val)
    (hpv : ∀ (k : Fin 512) (S : Fin 8192) (K : Fin 2048), S.val + 1 = t.val / 4 * 1024 → K.val = t.val % 4 * 512 + k.val →
      pv (ix2 0 k) = (m ((c : Thread nD τ).loc main_arg1) : FVec Ideal S8192x2048 .bf16) (ix2 S K))
    (hnv : ∀ (k : Fin 512) (S : Fin 8192) (K : Fin 2048), S.val = (t.val / 4 + 1) * 1024 → K.val = t.val % 4 * 512 + k.val →
      nv (ix2 0 k) = (m ((c : Thread nD τ).loc main_arg1) : FVec Ideal S8192x2048 .bf16) (ix2 S K))
    (h0 : ∀ (k : Fin 512) (K : Fin 2048), K.val = t.val % 4 * 512 + k.val →
      w0 (ix3 0 0 k) = (m ((c : Thread nD τ).loc main_arg2) : FVec Ideal S2x3x2048 .f32) (ix3 0 0 K))
    (h1 : ∀ (k : Fin 512) (K : Fin 2048), K.val = t.val % 4 * 512 + k.val →
      w1 (ix3 0 0 k) = (m ((c : Thread nD τ).loc main_arg2) : FVec Ideal S2x3x2048 .f32) (ix3 0 1 K))
    (h2 : ∀ (k : Fin 512) (K : Fin 2048), K.val = t.val % 4 * 512 + k.val →
      w2 (ix3 0 0 k) = (m ((c : Thread nD τ).loc main_arg2) : FVec Ideal S2x3x2048 .f32) (ix3 0 2 K)) :
    k0_pay1 (F := Ideal) (k0_pay4 (F := Ideal) (iblk m c 0 t)) (k0_pay6 (F := Ideal) (grid0.coords t) nv (iblk m c 1 t))
      (k0_pay7 (F := Ideal) (grid0.coords t) pv (iblk m c 1 t) w0 w1) w2 (iblk m c 5 t) (ix2 r j)
      = tile 512 (lane (m ((c : Thread nD τ).loc main_arg0)) (m ((c : Thread nD τ).loc main_arg1)) (m ((c : Thread nD τ).loc main_arg2)) (m ((c : Thread nD τ).loc main_arg3)) R j) (t.val % 4) := by
  pointwise [k0_pay1, k0_pay4, k0_pay5, k0_pay6, k0_pay7]
  unfold tile
  refine Fin.sum_fin_congr fun k => ?_
  have hK : t.val % 4 * 512 + k.val < 2048 := by omega
  rw [dif_pos hK]
  have hq : t.val / 4 < 8 := (idx t).2.2.2.2.2.2.2.2.2.2
  have hb : ∀ (s : Fin 1024) (S : Fin 8192), S.val = t.val / 4 * 1024 + s.val →
      @Eq EReal (iblk m c 1 t (ix2 s k)) ((m ((c : Thread nD τ).loc main_arg1) : FVec Ideal S8192x2048 .bf16) (ix2 S ⟨_, hK⟩)) := by
    intro s S hS
    blk_ext [iblk, V, idx t]
  rw [(idx t).2.2.2.2.2.2.2.2.2.1]
  refine Ideal.mul_congr (Ideal.mul_congr ?_ (Ideal.add_congr (Ideal.add_congr (Ideal.mul_congr
    (before_block (t.val / 4) hq r R hR (fun S => (m ((c : Thread nD τ).loc main_arg1) : FVec Ideal S8192x2048 .bf16) (ix2 S ⟨_, hK⟩))
      (fun s => iblk m c 1 t (ix2 s k)) _ hb fun S hS => hpv k S _ hS rfl) (h0 k ⟨_, hK⟩ rfl)) (Ideal.mul_congr (hb r R hR) (h1 k ⟨_, hK⟩ rfl)))
    (Ideal.mul_congr (after_block (t.val / 4) hq r R hR (fun S => (m ((c : Thread nD τ).loc main_arg1) : FVec Ideal S8192x2048 .bf16) (ix2 S ⟨_, hK⟩))
      (fun s => iblk m c 1 t (ix2 s k)) _ hb fun S hS => hnv k S _ hS rfl) (h2 k ⟨_, hK⟩ rfl)))) ?_
  all_goals blk_ext [iblk, V, idx t]

/-- A run's first point leaves its tile. -/
theorem first_at (c : Dev nD) (t : Fin cfg0.N) (h : t.val % 4 = 0) (r : Fin 1024) (j : Fin 2048) (R : Fin 8192)
    (hR : R.val = t.val / 4 * 1024 + r.val) :
    outsAt0 m c t.val t.isLt (ix2 r j) = tile 512 (lane (m ((c : Thread nD τ).loc main_arg0)) (m ((c : Thread nD τ).loc main_arg1)) (m ((c : Thread nD τ).loc main_arg2)) (m ((c : Thread nD τ).loc main_arg3)) R j) 0 := by
  rw [outsAt0_A m c t (by omega) (by omega) (by omega)]
  frame_out
  refine (part_at m c t _ _ _ _ _ r j R hR
      (fun k S K hS hK => by pointwise; blk_ext [iblk, V, idx t]) (fun k S K hS hK => by pointwise; blk_ext [iblk, V, idx t])
      (fun k K hK => by pointwise; blk_ext [iblk, V, idx t]) (fun k K hK => by pointwise; blk_ext [iblk, V, idx t])
      (fun k K hK => by pointwise; blk_ext [iblk, V, idx t])).trans ?_
  rw [h]

/-- A later point adds its tile to what the block holds. -/
theorem step_at (c : Dev nD) (t : Fin cfg0.N) (h : t.val % 4 ≠ 0) (h' : t.val % 4 ≠ 4 - 1) (r : Fin 1024) (j : Fin 2048)
    (R : Fin 8192) (hR : R.val = t.val / 4 * 1024 + r.val) :
    outsAt0 m c t.val t.isLt (ix2 r j)
      = outsAt0 m c (t.val - 1) (Nat.lt_of_le_of_lt (Nat.sub_le _ _) t.isLt) (ix2 r j) + tile 512 (lane (m ((c : Thread nD τ).loc main_arg0)) (m ((c : Thread nD τ).loc main_arg1)) (m ((c : Thread nD τ).loc main_arg2)) (m ((c : Thread nD τ).loc main_arg3)) R j) (t.val % 4) := by
  rw [outsAt0_B m c t (by omega) (by omega) (by omega)]
  frame_out
  rw [pay2_at]
  exact Ideal.add_congr rfl (part_at m c t _ _ _ _ _ r j R hR
      (fun k S K hS hK => by pointwise; blk_ext [iblk, V, idx t]) (fun k S K hS hK => by pointwise; blk_ext [iblk, V, idx t])
      (fun k K hK => by pointwise; blk_ext [iblk, V, idx t]) (fun k K hK => by pointwise; blk_ext [iblk, V, idx t])
      (fun k K hK => by pointwise; blk_ext [iblk, V, idx t]))

/-- What the block holds over the points of a run before the last: the tiles summed so far. -/
theorem acc_at (c : Dev nD) (q : ℕ) (r : Fin 1024) (j : Fin 2048) (R : Fin 8192) (hR : R.val = q * 1024 + r.val) :
    ∀ s, s < 4 - 1 → ∀ hn : q * 4 + s < cfg0.N, outsAt0 m c (q * 4 + s) hn (ix2 r j)
      = ∑ i ∈ Finset.range (s + 1), tile 512 (lane (m ((c : Thread nD τ).loc main_arg0)) (m ((c : Thread nD τ).loc main_arg1)) (m ((c : Thread nD τ).loc main_arg2)) (m ((c : Thread nD τ).loc main_arg3)) R j) i := by
  refine acc_run (fun n h => outsAt0 m c n h (ix2 r j)) 4 q (tile 512 (lane (m ((c : Thread nD τ).loc main_arg0)) (m ((c : Thread nD τ).loc main_arg1)) (m ((c : Thread nD τ).loc main_arg2)) (m ((c : Thread nD τ).loc main_arg3)) R j)) ?_ ?_
  · intro hn
    exact first_at m c ⟨q * 4, hn⟩ (by dsimp only; omega) r j R (by dsimp only; omega)
  · intro s hs hn
    refine (step_at m c ⟨q * 4 + (s + 1), hn⟩ (by dsimp only; omega) (by dsimp only; omega) r j R (by dsimp only; omega)).trans ?_
    rw [show (⟨q * 4 + (s + 1), hn⟩ : Fin cfg0.N).val % 4 = s + 1 by dsimp only; omega]
    rfl

/-- What the run's last point leaves, at a row and a column: the whole result there. -/
theorem last_at (c : Dev nD) (t : Fin cfg0.N) (ht : t.val % 4 = 4 - 1) (r : Fin 1024) (j : Fin 2048) (R : Fin 8192)
    (C : Fin 2048) (hR : R.val = t.val / 4 * 1024 + r.val) (hC : C.val = j.val) :
    outsAt0 m c t.val t.isLt (ix2 r j) = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R C := by
  obtain rfl : j = C := Fin.ext hC.symm
  rw [outsAt0_C m c t (by omega) (by omega) (by omega)]
  frame_out
  rw [pay3_at, pay2_at]
  have e := acc_at m c (t.val / 4) r j R hR (4 - 2) (by omega) (by have := t.isLt; omega)
  have e' : outsAt0 m c (t.val - 1) (Nat.lt_of_le_of_lt (Nat.sub_le _ _) t.isLt) (ix2 r j)
      = ∑ i ∈ Finset.range (4 - 1), tile 512 (lane (m ((c : Thread nD τ).loc main_arg0)) (m ((c : Thread nD τ).loc main_arg1)) (m ((c : Thread nD τ).loc main_arg2)) (m ((c : Thread nD τ).loc main_arg3)) R j) i := by
    refine Eq.trans ?_ e
    congr 1
    simp only [show t.val - 1 = t.val / 4 * 4 + (4 - 2) by omega]
  refine (Ideal.add_congr rfl (Ideal.mul_congr rfl (Ideal.add_congr rfl (part_at m c t _ _ _ _ _ r j R hR
      (fun k S K hS hK => by pointwise; blk_ext [iblk, V, idx t]) (fun k S K hS hK => by pointwise; blk_ext [iblk, V, idx t])
      (fun k K hK => by pointwise; blk_ext [iblk, V, idx t]) (fun k K hK => by pointwise; blk_ext [iblk, V, idx t])
      (fun k K hK => by pointwise; blk_ext [iblk, V, idx t]))))).trans ?_
  rw [ht, e', ← Finset.sum_range_succ _ (4 - 1), sum_tile 4 512 2048 rfl]
  unfold outAt
  pointwise
  blk_point [iblk, V, idx t]

/-- The result array after the run. -/
theorem final (c : Dev nD) : (dats m 0 c).arrAt 8 (cfgs 0).N
    = fun i : S8192x2048.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 8 _ (by decide +kernel) fun t hf y => ?_
  blk_simp
  rw [after0_8]
  refine (congrArg _ (eq_ix2 y)).trans (last_at m c t ((flush0_8 t).mp hf) (y 0) (y 1) _ _ ?_ ?_)
  all_goals blk_simp [idx t] <;> (try dsimp only) <;> try omega

/-- The reference's result, read at a row and a column. -/
theorem ref_at (x0 x1 : FVec Ideal Cert.ConvOutRefIdeal.S8192x2048 .bf16) (x2 : FVec Ideal Cert.ConvOutRefIdeal.S2x3x2048 .f32) (x3 : FVec Ideal Cert.ConvOutRefIdeal.S2x2048x2048 .f32)
    (x4 : FVec Ideal Cert.ConvOutRefIdeal.S8192x2048 .f32) (x5 : FVec Ideal Cert.ConvOutRefIdeal.S4x8x12288 .f32)
    (j : Cert.ConvOutRefIdeal.S8192x2048.Idx) :
    Cert.ConvOutRefIdeal.Read.val_main_v40 (F := Ideal) x0 x1 x2 x3 x4 x5 j = outAt x0 x1 x2 x3 x4 x5 (j 0) (j 1) := by
  rw [← Cert.ConvOutRefIdeal.Read.val_main_v40_eq]
  pointwise
  unfold outAt lane taps
  refine Ideal.add_congr (congrArg x4 (eq_ix2 j)) (Ideal.mul_congr rfl (Fin.sum_fin_congr fun k => ?_))
  refine Ideal.mul_congr (Ideal.mul_congr rfl (Ideal.add_congr (Ideal.add_congr (Ideal.mul_congr
    (before_pad (fun S => x1 (ix2 S k)) (j 0)) rfl) rfl) (Ideal.mul_congr (after_pad (fun S => x1 (ix2 S k)) (j 0)) rfl))) rfl

/-- The kernel's result is the reference's, at every index. -/
theorem algebraic : Cert.algebraic_ConvOutIdeal_ConvOutRefIdeal := by
  pair_intro
  · run_from Cert.ConvOutIdeal.Gen.run_main m g
  · hlo_run
    exact (Cert.ConvOutRefIdeal.Read.val_main_v40_eq (F := Ideal) _ _ _ _ _ _).trans
      ((funext fun i => ref_at _ _ _ _ _ _ i).trans (final m c).symm)

end Cert.ConvOutIdeal.Final
-- ==== Proof.AttnOut.lean ====
/- The attention's output projection: the attended rows times `w_o`, gated and added to the residual stream. -/
module

public import proofs.«01_k».proof.Defs
public import proofs.«01_k».proof.Proof.Gen.AttnOutIdeal.Value
public import proofs.«01_k».proof.Proof.Gen.AttnOutRefIdeal.Read
public import proofs.«01_k».proof.Proof.Tiles
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnOutIdeal.Final

open Cert.AttnOutIdeal Cert.AttnOutIdeal.Gen Cert.Tiles

/-- The block index of every window at every grid point. -/
theorem idx : ∀ t : Fin cfg0.N, win0_0.index t = ![t.val / 4, t.val % 4] ∧ win0_1.index t = ![0, t.val % 4, 0]
    ∧ win0_2.index t = ![t.val / 4, 0] ∧ win0_3.index t = ![0, 0, 2] ∧ win0_4.index t = ![t.val / 4, 0] ∧ t.val / 4 < 8 :=
  (by decide +kernel : ∀ t : Fin grid0.N, _)

/-- The product's summand at row `r`, column `j`: lane `k` of the row times that row of the weights. -/
def lane (a : FVec Ideal S8192x2048 .bf16) (w : FVec Ideal S2x2048x2048 .f32) (r : Fin 8192) (j : Fin 2048)
    (k : Fin 2048) : EReal :=
  a (ix2 r k) * w (ix3 0 k j)

/-- The result at row `r`, column `j`: the residual plus the gate (chunk 2 of `mod`) times the product. -/
def outAt (a : FVec Ideal S8192x2048 .bf16) (w : FVec Ideal S2x2048x2048 .f32) (x : FVec Ideal S8192x2048 .f32)
    (md : FVec Ideal S4x8x12288 .f32) (r : Fin 8192) (j : Fin 2048) : EReal :=
  x (ix2 r j) + md (ix3 0 0 ⟨4096 + j.val, by omega⟩) * ∑ k : Fin 2048, lane a w r j k

/-- A point's part of the product, read at a row and a column. -/
theorem pay1_at (a : FVec Ideal S1024x512 .bf16) (w : FVec Ideal S1x512x2048 .f32) (r : Fin 1024) (j : Fin 2048) :
    k0_pay1 (F := Ideal) a w (ix2 r j) = ∑ k : Fin 512, a (ix2 r k) * w (ix3 0 k j) := by
  pointwise [k0_pay1]

/-- The later points add their part to what the block holds. -/
theorem pay2_at (a : FVec Ideal S1024x512 .bf16) (w : FVec Ideal S1x512x2048 .f32) (acc : FVec Ideal S1024x2048 .f32)
    (r : Fin 1024) (j : Fin 2048) :
    k0_pay2 (F := Ideal) a w acc (ix2 r j) = acc (ix2 r j) + k0_pay1 (F := Ideal) a w (ix2 r j) := by
  pointwise [k0_pay2]

/-- The last point gates the sum and adds the residual. -/
theorem pay3_at (x : FVec Ideal S1024x2048 .f32) (g : FVec Ideal S1x1x2048 .f32) (acc : FVec Ideal S1024x2048 .f32)
    (r : Fin 1024) (j : Fin 2048) :
    k0_pay3 (F := Ideal) x g acc (ix2 r j) = x (ix2 r j) + g (ix3 0 0 j) * acc (ix2 r j) := by
  pointwise [k0_pay3]

variable (m : (ℓ : Loc nD τ sig) → Buf (Elt Ideal) ℓ)

/-- A point's part is its tile of the whole sum. -/
theorem part_at (c : Dev nD) (t : Fin cfg0.N) (r : Fin 1024) (j : Fin 2048) (R : Fin 8192)
    (hR : R.val = t.val / 4 * 1024 + r.val) :
    k0_pay1 (F := Ideal) (iblk m c 0 t) (iblk m c 1 t) (ix2 r j)
      = tile 512 (lane (m ((c : Thread nD τ).loc main_arg0)) (m ((c : Thread nD τ).loc main_arg1)) R j) (t.val % 4) := by
  rw [pay1_at]
  unfold tile
  refine Fin.sum_fin_congr fun k => ?_
  rw [dif_pos (show t.val % 4 * 512 + k.val < 2048 by omega)]
  unfold lane
  blk_point [iblk, V, idx t]

/-- What the block holds over the points of a run before the last: the tiles summed so far. -/
theorem acc_at (c : Dev nD) (q : ℕ) (r : Fin 1024) (j : Fin 2048) (R : Fin 8192) (hR : R.val = q * 1024 + r.val) :
    ∀ s, s < 4 - 1 → ∀ hn : q * 4 + s < cfg0.N, outsAt0 m c (q * 4 + s) hn (ix2 r j)
      = ∑ i ∈ Finset.range (s + 1), tile 512 (lane (m ((c : Thread nD τ).loc main_arg0)) (m ((c : Thread nD τ).loc main_arg1)) R j) i := by
  refine acc_run (fun n h => outsAt0 m c n h (ix2 r j)) 4 q
    (tile 512 (lane (m ((c : Thread nD τ).loc main_arg0)) (m ((c : Thread nD τ).loc main_arg1)) R j)) ?_ ?_
  · intro hn
    show outsAt0 m c (⟨q * 4, hn⟩ : Fin cfg0.N).val _ (ix2 r j) = _
    rw [outsAt0_A m c ⟨q * 4, hn⟩ (by dsimp only; omega) (by dsimp only; omega) (by dsimp only; omega)]
    frame_out
    refine (part_at m c ⟨q * 4, hn⟩ r j R (by dsimp only; omega)).trans ?_
    rw [show (⟨q * 4, hn⟩ : Fin cfg0.N).val % 4 = 0 by dsimp only; omega]
  · intro s hs hn
    show outsAt0 m c (⟨q * 4 + (s + 1), hn⟩ : Fin cfg0.N).val _ (ix2 r j) = _
    rw [outsAt0_B m c ⟨q * 4 + (s + 1), hn⟩ (by dsimp only; omega) (by dsimp only; omega) (by dsimp only; omega)]
    frame_out
    rw [pay2_at]
    refine Ideal.add_congr rfl ?_
    refine (part_at m c ⟨q * 4 + (s + 1), hn⟩ r j R (by dsimp only; omega)).trans ?_
    rw [show (⟨q * 4 + (s + 1), hn⟩ : Fin cfg0.N).val % 4 = s + 1 by dsimp only; omega]

/-- What the run's last point leaves, at a row and a column: the whole result there. -/
theorem last_at (c : Dev nD) (t : Fin cfg0.N) (ht : t.val % 4 = 4 - 1) (r : Fin 1024) (j : Fin 2048) (R : Fin 8192)
    (C : Fin 2048) (hR : R.val = t.val / 4 * 1024 + r.val) (hC : C.val = j.val) :
    outsAt0 m c t.val t.isLt (ix2 r j) = outAt (m ((c : Thread nD τ).loc main_arg0)) (m ((c : Thread nD τ).loc main_arg1)) (m ((c : Thread nD τ).loc main_arg2)) (m ((c : Thread nD τ).loc main_arg3)) R C := by
  obtain rfl : j = C := Fin.ext hC.symm
  rw [outsAt0_C m c t (by omega) (by omega) (by omega)]
  frame_out
  rw [pay3_at, pay2_at]
  have e := acc_at m c (t.val / 4) r j R hR (4 - 2) (by omega) (by have := t.isLt; omega)
  have e' : outsAt0 m c (t.val - 1) (Nat.lt_of_le_of_lt (Nat.sub_le _ _) t.isLt) (ix2 r j)
      = ∑ i ∈ Finset.range (4 - 1), tile 512 (lane (m ((c : Thread nD τ).loc main_arg0)) (m ((c : Thread nD τ).loc main_arg1)) R j) i := by
    refine Eq.trans ?_ e
    congr 1
    simp only [show t.val - 1 = t.val / 4 * 4 + (4 - 2) by omega]
  have p := part_at m c t r j R hR
  rw [ht] at p
  rw [p, e', ← Finset.sum_range_succ _ (4 - 1), sum_tile 4 512 2048 rfl]
  unfold outAt
  pointwise
  blk_point [iblk, V, idx t]

/-- The result array after the run. -/
theorem final (c : Dev nD) : (dats m 0 c).arrAt 4 (cfgs 0).N
    = fun i : S8192x2048.Idx => outAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  refine (congrArg _ (eq_ix2 y)).trans (last_at m c t ((flush0_4 t).mp hf) (y 0) (y 1) _ _ ?_ ?_)
  all_goals blk_simp [idx t] <;> (try dsimp only) <;> try omega

/-- The reference's result, read at a row and a column. -/
theorem ref_at (x0 : FVec Ideal Cert.AttnOutRefIdeal.S8192x2048 .bf16) (x1 : FVec Ideal Cert.AttnOutRefIdeal.S2x2048x2048 .f32)
    (x2 : FVec Ideal Cert.AttnOutRefIdeal.S8192x2048 .f32) (x3 : FVec Ideal Cert.AttnOutRefIdeal.S4x8x12288 .f32)
    (j : Cert.AttnOutRefIdeal.S8192x2048.Idx) :
    Cert.AttnOutRefIdeal.Read.val_main_v15 (F := Ideal) x0 x1 x2 x3 j = outAt x0 x1 x2 x3 (j 0) (j 1) := by
  rw [← Cert.AttnOutRefIdeal.Read.val_main_v15_eq]
  pointwise [outAt, lane]

/-- The kernel's result is the reference's, at every index. -/
theorem algebraic : Cert.algebraic_AttnOutIdeal_AttnOutRefIdeal := by
  pair_intro
  · run_from Cert.AttnOutIdeal.Gen.run_main m g
  · hlo_run
    exact (Cert.AttnOutRefIdeal.Read.val_main_v15_eq (F := Ideal) _ _ _ _).trans
      ((funext fun i => ref_at _ _ _ _ i).trans (final m c).symm)

end Cert.AttnOutIdeal.Final
-- ==== Proof.QkvRef.lean ====
/- The reference of the q/k/v projection, read at an index: `rms_norm`, the shift and scale of `mod`, the product with
   `w_q` and `w_kv`, the heads normed and rotated, and the results side by side. -/
module

public import proofs.«01_k».proof.Proof.Gen.QkvRefIdeal.Read
public import proofs.«01_k».proof.Defs
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvRef

open Cert.QkvRefIdeal Cert.QkvRefIdeal.Read

/-- Row `r`, lane `k` of the modulated activations: the row over its root mean square, times one plus the scale
    (chunk 1 of `mod`), plus the shift (chunk 0). -/
def hAt (x : FVec Ideal S8192x2048 .f32) (md : FVec Ideal S4x8x12288 .f32) (r : Fin 8192) (k : Fin 2048) : EReal :=
  x (ix2 r k) * Ideal.rsqrt (Ideal.div (∑ l : Fin 2048, x (ix2 r l) * x (ix2 r l)) (Ideal.ofBits .f32 0x45000000#32)
      + Ideal.ofBits .f32 0x358637BD#32)
    * (1 + md (ix3 0 0 ⟨2048 + k.val, by omega⟩)) + md (ix3 0 0 ⟨k.val, by omega⟩)

/-- Entry `(r, n)` of the whole product: the modulated row against column `n` of `w_qkv`. -/
def projAt (x : FVec Ideal S8192x2048 .f32) (md : FVec Ideal S4x8x12288 .f32) (w : FVec Ideal S2x2048x3072 .f32)
    (r : Fin 8192) (n : Fin 3072) : EReal :=
  ∑ k : Fin 2048, hAt x md r k * w (ix3 0 k n)

/-- A head's 128 lanes over their root mean square, times the gain. -/
def nrm (y g : Fin 128 → EReal) (l : Fin 128) : EReal :=
  y l * Ideal.rsqrt (Ideal.div (∑ e : Fin 128, y e * y e) (Ideal.ofBits .f32 0x43000000#32) + Ideal.ofBits .f32 0x358637BD#32) * g l

/-- The lane's partner in its rotation: the lane 32 further with its sign turned, or the lane 32 before. -/
def rot (z : Fin 128 → EReal) (l : Fin 128) : EReal :=
  if h : l.val / 32 % 2 = 0 then -(z ⟨l.val + 32, by omega⟩) else z ⟨l.val - 32, by omega⟩

/-- The head whose lanes begin at column `o`, normed and rotated, at row `r` and lane `l`. -/
def headAt (x : FVec Ideal S8192x2048 .f32) (md : FVec Ideal S4x8x12288 .f32) (w : FVec Ideal S2x2048x3072 .f32)
    (gn : FVec Ideal S2x128 .f32) (r : Fin 8192) (o : Fin 24) (l : Fin 128) : EReal :=
  nrm (fun e => projAt x md w r ⟨o.val * 128 + e.val, by omega⟩) (fun e => gn (ix2 0 e)) l * val_main_v57 (F := Ideal) (ix2 r l)
    + rot (nrm (fun e => projAt x md w r ⟨o.val * 128 + e.val, by omega⟩) (fun e => gn (ix2 0 e))) l * val_main_v58 (F := Ideal) (ix2 r l)

/-- The whole result: 16 query heads, 4 key heads, and the values as the product leaves them. -/
def qkvAt (x : FVec Ideal S8192x2048 .f32) (md : FVec Ideal S4x8x12288 .f32) (w : FVec Ideal S2x2048x3072 .f32)
    (gq gk : FVec Ideal S2x128 .f32) (r : Fin 8192) (n : Fin 3072) : EReal :=
  if n.val < 2560 then headAt x md w (if n.val < 2048 then gq else gk) r ⟨n.val / 128, by omega⟩ ⟨n.val % 128, by omega⟩
  else projAt x md w r n

variable (x0 : FVec Ideal S8192x2048 .f32) (x1 : FVec Ideal S4x8x12288 .f32) (x2 : FVec Ideal S2x2048x3072 .f32)
  (x3 x4 : FVec Ideal S2x128 .f32)

/-- The reference's modulated rows. -/
theorem h_at (r : Fin 8192) (k : Fin 2048) : val_main_v25 (F := Ideal) x0 x1 (ix2 r k) = hAt x0 x1 r k := by
  pointwise [hAt, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The reference's product for the queries, by head and lane. -/
theorem q_at (r : Fin 8192) (h : Fin 16) (d : Fin 128) : val_main_v68 (F := Ideal) x0 x1 x2 (ix3 r h d)
    = projAt x0 x1 x2 r ⟨h.val * 128 + d.val, by omega⟩ := by
  pointwise [val_main_v68, val_main_v67, val_main_v61, val_main_v60, val_main_v59]
  unfold projAt
  simp only [h_at]

/-- The reference's product for the keys and values. -/
theorem kv_at (r : Fin 8192) (n : Fin 1024) : val_main_v101 (F := Ideal) x0 x1 x2 (ix2 r n)
    = projAt x0 x1 x2 r ⟨2048 + n.val, by omega⟩ := by
  pointwise [val_main_v101, val_main_v64, val_main_v63, val_main_v62]
  unfold projAt
  simp only [h_at]

/-- The reference's product for the keys, by head and lane. -/
theorem k_at (r : Fin 8192) (h : Fin 4) (d : Fin 128) : val_main_v104 (F := Ideal) x0 x1 x2 (ix3 r h d)
    = projAt x0 x1 x2 r ⟨2048 + (h.val * 128 + d.val), by omega⟩ := by
  pointwise [val_main_v104, val_main_v102]
  exact kv_at x0 x1 x2 _ _

/-- The query heads normed. -/
theorem qn_at (r : Fin 8192) (h : Fin 16) (d : Fin 128) : val_main_v81 (F := Ideal) x0 x1 x2 x3 (ix3 r h d)
    = nrm (fun e => projAt x0 x1 x2 r ⟨h.val * 128 + e.val, by omega⟩) (fun e => x3 (ix2 0 e)) d := by
  pointwise [val_main_v81, val_main_v80, val_main_v79, val_main_v78, val_main_v77, val_main_v76, val_main_v75, val_main_v74, val_main_v73, val_main_v72, val_main_v71, val_main_v70, val_main_v69, val_main_v66, val_main_v65, val_main_cst_5, val_main_cst_6, val_main_cst_7]
  unfold nrm
  simp only [q_at]

/-- The key heads normed. -/
theorem kn_at (r : Fin 8192) (h : Fin 4) (d : Fin 128) : val_main_v117 (F := Ideal) x0 x1 x2 x4 (ix3 r h d)
    = nrm (fun e => projAt x0 x1 x2 r ⟨2048 + (h.val * 128 + e.val), by omega⟩) (fun e => x4 (ix2 0 e)) d := by
  pointwise [val_main_v117, val_main_v116, val_main_v115, val_main_v114, val_main_v113, val_main_v112, val_main_v111, val_main_v110, val_main_v109, val_main_v108, val_main_v107, val_main_v106, val_main_v105, val_main_v100, val_main_v99, val_main_cst_8, val_main_cst_9, val_main_cst_10]
  unfold nrm
  simp only [k_at]

/-- The query heads turned by their rotation. -/
theorem qr_at (r : Fin 8192) (h : Fin 16) (d : Fin 128) : val_main_v91 (F := Ideal) x0 x1 x2 x3 (ix3 r h d)
    = rot (fun e => val_main_v81 (F := Ideal) x0 x1 x2 x3 (ix3 r h e)) d := by
  pointwise [val_main_v91, val_main_v90, val_main_v89, val_main_v88, val_main_v87, val_main_v86, val_main_v85, val_main_v84, val_main_v83, val_main_v82]
  unfold rot
  by_cases hc : d.val / 32 % 2 = 0
  · rw [dif_pos (by omega), dif_pos hc]
    exact congrArg (fun e => -val_main_v81 (F := Ideal) x0 x1 x2 x3 (ix3 r h e)) (Fin.ext (by dsimp only; omega))
  · rw [dif_neg (by omega), dif_neg hc]
    exact congrArg (fun e => val_main_v81 (F := Ideal) x0 x1 x2 x3 (ix3 r h e)) (Fin.ext (by dsimp only; omega))

/-- The key heads turned by their rotation. -/
theorem kr_at (r : Fin 8192) (h : Fin 4) (d : Fin 128) : val_main_v127 (F := Ideal) x0 x1 x2 x4 (ix3 r h d)
    = rot (fun e => val_main_v117 (F := Ideal) x0 x1 x2 x4 (ix3 r h e)) d := by
  pointwise [val_main_v127, val_main_v126, val_main_v125, val_main_v124, val_main_v123, val_main_v122, val_main_v121, val_main_v120, val_main_v119, val_main_v118]
  unfold rot
  by_cases hc : d.val / 32 % 2 = 0
  · rw [dif_pos (by omega), dif_pos hc]
    exact congrArg (fun e => -val_main_v117 (F := Ideal) x0 x1 x2 x4 (ix3 r h e)) (Fin.ext (by dsimp only; omega))
  · rw [dif_neg (by omega), dif_neg hc]
    exact congrArg (fun e => val_main_v117 (F := Ideal) x0 x1 x2 x4 (ix3 r h e)) (Fin.ext (by dsimp only; omega))

/-- A query head of the reference, normed and rotated. -/
theorem q_head (r : Fin 8192) (h : Fin 16) (d : Fin 128) :
    val_main_v81 (F := Ideal) x0 x1 x2 x3 (ix3 r h d) * val_main_v57 (F := Ideal) (ix2 r d)
      + val_main_v91 (F := Ideal) x0 x1 x2 x3 (ix3 r h d) * val_main_v58 (F := Ideal) (ix2 r d)
    = headAt x0 x1 x2 x3 r ⟨h.val, by omega⟩ d := by
  rw [qr_at]
  simp only [qn_at]
  rfl

/-- A key head of the reference, normed and rotated: its columns begin after the 16 query heads. -/
theorem k_head (r : Fin 8192) (h : Fin 4) (d : Fin 128) :
    val_main_v117 (F := Ideal) x0 x1 x2 x4 (ix3 r h d) * val_main_v57 (F := Ideal) (ix2 r d)
      + val_main_v127 (F := Ideal) x0 x1 x2 x4 (ix3 r h d) * val_main_v58 (F := Ideal) (ix2 r d)
    = headAt x0 x1 x2 x4 r ⟨16 + h.val, by omega⟩ d := by
  rw [kr_at]
  simp only [kn_at]
  unfold headAt
  have e : (fun e : Fin 128 => projAt x0 x1 x2 r ⟨2048 + (h.val * 128 + e.val), by omega⟩)
      = fun e : Fin 128 => projAt x0 x1 x2 r ⟨(16 + h.val) * 128 + e.val, by omega⟩ :=
    funext fun e => congrArg (projAt x0 x1 x2 r) (Fin.ext (by dsimp only; omega))
  rw [e]

/-- The reference's result, read at a row and a column. -/
theorem ref_row (r : Fin 8192) (n : Fin 3072) : val_main_v138 (F := Ideal) x0 x1 x2 x3 x4 (ix2 r n) = qkvAt x0 x1 x2 x3 x4 r n := by
  pointwise [val_main_v138, val_main_v137, val_main_v136, val_main_v135, val_main_v103, val_main_v134, val_main_v133, val_main_v132, val_main_v131, val_main_v130, val_main_v129, val_main_v128, val_main_v98, val_main_v97, val_main_v96, val_main_v95, val_main_v94, val_main_v93, val_main_v92]
  by_cases h1 : n.val < 2048
  · have e : qkvAt x0 x1 x2 x3 x4 r n = headAt x0 x1 x2 x3 r ⟨n.val / 128, by omega⟩ ⟨n.val % 128, by omega⟩ := by
      unfold qkvAt
      rw [if_pos (by omega), if_pos h1]
    exact (dif_pos h1).trans ((q_head x0 x1 x2 x3 r ⟨n.val / 128, by omega⟩ ⟨n.val % 128, by omega⟩).trans e.symm)
  · refine (dif_neg h1).trans ?_
    by_cases h2 : n.val - 2048 < 512
    · have e : qkvAt x0 x1 x2 x3 x4 r n = headAt x0 x1 x2 x4 r ⟨16 + (n.val - 2048) / 128, by omega⟩ ⟨(n.val - 2048) % 128, by omega⟩ := by
        unfold qkvAt
        rw [if_pos (by omega), if_neg h1]
        exact congrArg₂ (headAt x0 x1 x2 x4 r) (Fin.ext (show n.val / 128 = 16 + (n.val - 2048) / 128 by omega))
          (Fin.ext (show n.val % 128 = (n.val - 2048) % 128 by omega))
      exact (dif_pos h2).trans ((k_head x0 x1 x2 x4 r ⟨(n.val - 2048) / 128, by omega⟩ ⟨(n.val - 2048) % 128, by omega⟩).trans e.symm)
    · have e : qkvAt x0 x1 x2 x3 x4 r n = projAt x0 x1 x2 r ⟨2048 + (512 + (n.val - 2048 - 512)), by omega⟩ := by
        unfold qkvAt
        rw [if_neg (by omega)]
        exact congrArg (projAt x0 x1 x2 r) (Fin.ext (show n.val = 2048 + (512 + (n.val - 2048 - 512)) by omega))
      exact (dif_neg h2).trans ((kv_at x0 x1 x2 r ⟨512 + (n.val - 2048 - 512), by omega⟩).trans e.symm)

/-- The reference's result at an index. -/
theorem ref_at (j : S8192x3072.Idx) : val_main_v138 (F := Ideal) x0 x1 x2 x3 x4 j = qkvAt x0 x1 x2 x3 x4 (j 0) (j 1) :=
  (congrArg _ (eq_ix2 j)).trans (ref_row x0 x1 x2 x3 x4 (j 0) (j 1))

end Cert.QkvRef
-- ==== Proof.Qkv.lean ====
/- The q/k/v projection: `rms_norm`, the shift and scale of `mod`, the product with `w_qkv`, and the query and key heads
   normed and rotated as they are stored. -/
module

public import proofs.«01_k».proof.Proof.Gen.QkvIdeal.Value
public import proofs.«01_k».proof.Proof.Gen.QkvRefIdeal.Read
public import proofs.«01_k».proof.Defs
public import proofs.«01_k».proof.Proof.QkvRef
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Final

open Cert.QkvIdeal Cert.QkvIdeal.Gen
open Cert.QkvRef (hAt projAt nrm rot headAt qkvAt)

/-- The block index of every window at every grid point. -/
theorem idx : ∀ t : Fin cfg0.N, win0_0.index t = ![t.val / 6, 0] ∧ win0_1.index t = ![0, 0, 0]
    ∧ win0_2.index t = ![0, 0, 1] ∧ win0_3.index t = ![0, 0, t.val % 6] ∧ win0_4.index t = ![0, 0]
    ∧ win0_5.index t = ![t.val / 6, 0] ∧ win0_6.index t = ![t.val / 6, 0] ∧ win0_7.index t = ![t.val / 6, t.val % 6]
    ∧ (grid0.coords t 1).val = t.val % 6 ∧ t.val / 6 < 8 :=
  (by decide +kernel : ∀ t : Fin grid0.N, _)

/-- What the modulation stores, read at a row and a lane. -/
theorem pay1_at (x : FVec Ideal S1024x2048 .f32) (sc sh : FVec Ideal S1x1x2048 .f32) (r : Fin 1024) (k : Fin 2048) :
    k0_pay1 (F := Ideal) x sc sh (ix2 r k)
      = x (ix2 r k) * Ideal.rsqrt (Ideal.div (∑ l : Fin 2048, x (ix2 r l) * x (ix2 r l)) (Ideal.ofBits .f32 0x45000000#32)
      + Ideal.ofBits .f32 0x358637BD#32) * (1 + sc (ix3 0 0 k)) + sh (ix3 0 0 k) := by
  pointwise [k0_pay1]

/-- The product, read at a row and a column. -/
theorem pay2_at (h : FVec Ideal S1024x2048 .bf16) (w : FVec Ideal S1x2048x512 .f32) (r : Fin 1024) (n : Fin 512) :
    k0_pay2 (F := Ideal) h w (ix2 r n) = ∑ k : Fin 2048, h (ix2 r k) * w (ix3 0 k n) := by
  pointwise [k0_pay2]

/-- What a value block stores is the product. -/
theorem pay4_at (h : FVec Ideal S1024x2048 .bf16) (w : FVec Ideal S1x2048x512 .f32) (r : Fin 1024) (n : Fin 512) :
    k0_pay4 (F := Ideal) h w (ix2 r n) = ∑ k : Fin 2048, h (ix2 r k) * w (ix3 0 k n) := by
  pointwise [k0_pay4, k0_pay2]

/-- The lanes that take their partner from 32 further: those with bit 32 clear. -/
theorem lane_word : ∀ l : Fin 128, IntOp.cmpi .eq (IntOp.andi (BitVec.ofNat 32 l.val) 32#32) 0#32
    = if l.val / 32 % 2 = 0 then 1#1 else 0#1 := by
  decide +kernel

/-- The mask of those lanes. -/
theorem pay8_at (r : Fin 1024) (l : Fin 128) : k0_pay8 (ix2 r l) = if l.val / 32 % 2 = 0 then 1#1 else 0#1 := by
  pointwise [k0_pay8]
  exact lane_word l

/-- The gain of a block: the first row below block 4, the second from there. -/
theorem pay5_at (a : Fin 6) (g k : FVec Ideal S1x128 .f32) (l : Fin 128) :
    k0_pay5 (F := Ideal) (BitVec.ofNat 32 a.val) g k (ix2 0 l) = if a.val < 4 then g (ix2 0 l) else k (ix2 0 l) := by
  have e : ∀ a : Fin 6, Scalar.cmpi .slt (BitVec.ofNat 32 a.val) 4#32 = if a.val < 4 then 1#1 else 0#1 := by decide
  pointwise [k0_pay5]
  rw [e a]
  by_cases h : a.val < 4
  · rw [if_pos h, if_pos h]
    rfl
  · rw [if_neg h, if_neg h]
    rfl

/-- Of the two turns of a head's lanes, the mask takes the lane 32 further where bit 32 is clear, else the lane 32 before. -/
theorem turn_at (z : Fin 128 → EReal) (r : Fin 1024) (l : Fin 128) :
    Scalar.select (k0_pay8 (ix2 r l)) (z ⟨(l.val + 128 - 96) % 128, by omega⟩) (z ⟨(l.val + 128 - 32) % 128, by omega⟩)
      = if h : l.val / 32 % 2 = 0 then z ⟨l.val + 32, by omega⟩ else z ⟨l.val - 32, by omega⟩ := by
  rw [pay8_at]
  by_cases h : l.val / 32 % 2 = 0
  · rw [if_pos h, dif_pos h]
    exact congrArg z (Fin.ext (show (l.val + 128 - 96) % 128 = l.val + 32 by omega))
  · rw [if_neg h, dif_neg h]
    exact congrArg z (Fin.ext (show (l.val + 128 - 32) % 128 = l.val - 32 by omega))

/-- A head as the kernel computes it: normed, and its rotation by the two tables, the second with its sign inside. -/
def kheadAt (y g cs sn : Fin 128 → EReal) (l : Fin 128) : EReal :=
  nrm y g l * cs l + (if h : l.val / 32 % 2 = 0 then nrm y g ⟨l.val + 32, by omega⟩ else nrm y g ⟨l.val - 32, by omega⟩) * sn l

/-- The head at column 128. -/
theorem pay12_at (v7 : FVec Ideal S1024x512 .f32) (g : FVec Ideal S1x128 .f32) (cs sn : FVec Ideal S1024x128 .f32) (r : Fin 1024) (l : Fin 128) :
    k0_pay12 (F := Ideal) g cs sn k0_pay8 (k0_pay10 v7) (k0_pay11 v7) (ix2 r l)
      = kheadAt (fun e => v7 (ix2 r ⟨128 + e.val, by omega⟩)) (fun e => g (ix2 0 e)) (fun e => cs (ix2 r e)) (fun e => sn (ix2 r e)) l := by
  pointwise [kheadAt, nrm, k0_pay12, k0_pay10, k0_pay11]
  exact Ideal.add_congr rfl (Ideal.mul_congr
    (turn_at (nrm (fun e => v7 (ix2 r ⟨128 + e.val, by omega⟩)) fun e => g (ix2 0 e)) r l) rfl)

/-- The head at column 256. -/
theorem pay13_at (v7 : FVec Ideal S1024x512 .f32) (g : FVec Ideal S1x128 .f32) (cs sn : FVec Ideal S1024x128 .f32) (r : Fin 1024) (l : Fin 128) :
    k0_pay13 (F := Ideal) v7 g cs sn k0_pay8 (ix2 r l)
      = kheadAt (fun e => v7 (ix2 r ⟨256 + e.val, by omega⟩)) (fun e => g (ix2 0 e)) (fun e => cs (ix2 r e)) (fun e => sn (ix2 r e)) l := by
  pointwise [kheadAt, nrm, k0_pay13]
  exact Ideal.add_congr rfl (Ideal.mul_congr
    (turn_at (nrm (fun e => v7 (ix2 r ⟨256 + e.val, by omega⟩)) fun e => g (ix2 0 e)) r l) rfl)

/-- The head at column 384. -/
theorem pay3_at (v7 : FVec Ideal S1024x512 .f32) (g : FVec Ideal S1x128 .f32) (cs sn : FVec Ideal S1024x128 .f32) (r : Fin 1024) (l : Fin 128) :
    k0_pay3 (F := Ideal) g cs sn k0_pay8 (k0_pay14 v7) (k0_pay15 v7) k0_pay16 (ix2 r l)
      = kheadAt (fun e => v7 (ix2 r ⟨384 + e.val, by omega⟩)) (fun e => g (ix2 0 e)) (fun e => cs (ix2 r e)) (fun e => sn (ix2 r e)) l := by
  pointwise [kheadAt, nrm, k0_pay3, k0_pay14, k0_pay15, k0_pay16]
  exact Ideal.add_congr rfl (Ideal.mul_congr
    (turn_at (nrm (fun e => v7 (ix2 r ⟨384 + e.val, by omega⟩)) fun e => g (ix2 0 e)) r l) rfl)

/-- The head at column 0. -/
theorem pay9_at (v7 : FVec Ideal S1024x512 .f32) (a : BitVec 32) (g0 g1 : FVec Ideal S1x128 .f32) (cs sn : FVec Ideal S1024x128 .f32) (r : Fin 1024) (l : Fin 128) :
    k0_pay9 (F := Ideal) a v7 g0 g1 cs sn (ix2 r l)
      = kheadAt (fun e => v7 (ix2 r ⟨e.val, by omega⟩)) (fun e => k0_pay5 (F := Ideal) a g0 g1 (ix2 0 e)) (fun e => cs (ix2 r e)) (fun e => sn (ix2 r e)) l := by
  pointwise [kheadAt, nrm, k0_pay9, k0_pay6, k0_pay7]
  exact Ideal.add_congr rfl (Ideal.mul_congr
    (turn_at (nrm (fun e => v7 (ix2 r ⟨e.val, by omega⟩)) fun e => k0_pay5 (F := Ideal) a g0 g1 (ix2 0 e)) r l) rfl)

/-- A table passed through unchanged. -/
theorem pay6_at (x : FVec Ideal S1024x128 .f32) (r : Fin 1024) (l : Fin 128) : k0_pay6 (F := Ideal) x (ix2 r l) = x (ix2 r l) := by
  pointwise [k0_pay6]

/-- A table passed through unchanged. -/
theorem pay7_at (x : FVec Ideal S1024x128 .f32) (r : Fin 1024) (l : Fin 128) : k0_pay7 (F := Ideal) x (ix2 r l) = x (ix2 r l) := by
  pointwise [k0_pay7]

/-- The sign is inside the second table: the kernel's head is the reference's. -/
theorem khead_eq (x : FVec Ideal S8192x2048 .f32) (md : FVec Ideal S4x8x12288 .f32) (w : FVec Ideal S2x2048x3072 .f32)
    (gn : FVec Ideal S2x128 .f32) (r : Fin 8192) (o : Fin 24) (l : Fin 128) (y g cs sn : Fin 128 → EReal)
    (hy : ∀ e : Fin 128, y e = projAt x md w r ⟨o.val * 128 + e.val, by omega⟩) (hg : ∀ e : Fin 128, g e = gn (ix2 0 e))
    (hc : ∀ e : Fin 128, cs e = Cert.QkvRefIdeal.Read.val_main_v57 (F := Ideal) (ix2 r e))
    (hs : ∀ e : Fin 128, sn e = Cert.QkvRefIdeal.Read.val_main_v58 (F := Ideal) (ix2 r e) * (if e.val / 32 % 2 = 0 then -1 else 1)) :
    kheadAt y g cs sn l = headAt x md w gn r o l := by
  obtain rfl : y = fun e : Fin 128 => projAt x md w r ⟨o.val * 128 + e.val, by omega⟩ := funext hy
  obtain rfl : g = fun e => gn (ix2 0 e) := funext hg
  unfold kheadAt headAt rot
  rw [hc, hs]
  refine Ideal.add_congr rfl ?_
  by_cases h : l.val / 32 % 2 = 0
  · rw [dif_pos h, dif_pos h, if_pos h, mul_neg, mul_one, mul_neg, neg_mul]
  · rw [dif_neg h, dif_neg h, if_neg h, mul_one]

variable (m : (ℓ : Loc nD τ sig) → Buf (Elt Ideal) ℓ)

/-- The table of cosines the kernel is given is the reference's. -/
theorem cos_tab (c : Dev nD) : V m c main_v45 = Cert.QkvRefIdeal.Read.val_main_v57 (F := Ideal) := by
  rfl

/-- The word of minus one. -/
theorem neg_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The table of sines the kernel is given: the reference's times a sign per lane. -/
theorem sin_tab (c : Dev nD) : V m c main_v49 = (mulf (Cert.QkvRefIdeal.Read.val_main_v58 (F := Ideal)) (broadcastInDim S8192x128 ![0, 1] bcast_S1x128_S8192x128_0_1
      (broadcastInDim S1x128 ![1] bcast_S128_S1x128_1
        (select (cmpi .eq (andi (iotaInDim S128 32 0) (broadcastInDim S128 ![] bcast_S_S128 (constantI S_ 32 32#32)))
            (broadcastInDim S128 ![] bcast_S_S128 (constantI S_ 32 0#32)))
          (broadcastInDim S128 ![] bcast_S_S128 (constant (F := Ideal) S_ .f32 0xBF800000#32))
          (broadcastInDim S128 ![] bcast_S_S128 (constant (F := Ideal) S_ .f32 0x3F800000#32))))) : FVec Ideal S8192x128 .f32) := by
  rfl

/-- The same, read at a row and a lane: the sign is minus where bit 32 of the lane is clear. -/
theorem sin_at (c : Dev nD) (r : Fin 8192) (l : Fin 128) : (V m c main_v49 : FVec Ideal S8192x128 .f32) (ix2 r l)
    = Cert.QkvRefIdeal.Read.val_main_v58 (F := Ideal) (ix2 r l) * (if l.val / 32 % 2 = 0 then -1 else 1) := by
  rw [sin_tab]
  pointwise []
  rw [lane_word, neg_one]
  refine Ideal.mul_congr rfl ?_
  by_cases h : l.val / 32 % 2 = 0
  · rw [if_pos h, if_pos h]
    rfl
  · rw [if_neg h, if_neg h]
    rfl

/-- The kernel's gains: the two arguments' first rows, one over the other. -/
theorem gain_tab (c : Dev nD) : V m c main_v6 = (concatenate S2x128 0
    [⟨S1x128, broadcastInDim S1x128 ![1] bcast_S128_S1x128_1 (shapeCast S128
        (extractStridedSlice S1x128 ![0, 0] (m ((c : Thread nD τ).loc main_arg3)) slices_S2x128_S1x128_0_0) shapeCasts_S1x128_S128)⟩,
      ⟨S1x128, broadcastInDim S1x128 ![1] bcast_S128_S1x128_1 (shapeCast S128
        (extractStridedSlice S1x128 ![0, 0] (m ((c : Thread nD τ).loc main_arg4)) slices_S2x128_S1x128_0_0) shapeCasts_S1x128_S128)⟩]
    concatenates_S1x128_S1x128_S2x128_d0 : FVec Ideal S2x128 .f32) := by
  rfl

/-- The same, read at a row and a lane. -/
theorem gain_at (c : Dev nD) (a : Fin 2) (l : Fin 128) : (V m c main_v6 : FVec Ideal S2x128 .f32) (ix2 a l)
    = if a.val < 1 then m ((c : Thread nD τ).loc main_arg3) (ix2 0 l) else m ((c : Thread nD τ).loc main_arg4) (ix2 0 l) := by
  rw [gain_tab]
  pointwise []
  split <;> rfl

/-- The product of a point's block at a row and a column: the whole product there. -/
theorem proj_at (c : Dev nD) (t : Fin cfg0.N) (s : FVec Ideal S1024x2048 .bf16)
    (hs : ∀ (r : Fin 1024) (k : Fin 2048) (R : Fin 8192), R.val = t.val / 6 * 1024 + r.val →
      s (ix2 r k) = hAt (m ((c : Thread nD τ).loc main_arg0)) (m ((c : Thread nD τ).loc main_arg1)) R k)
    (r : Fin 1024) (n : Fin 512) (R : Fin 8192) (N : Fin 3072)
    (hR : R.val = t.val / 6 * 1024 + r.val) (hN : N.val = t.val % 6 * 512 + n.val) :
    k0_pay2 (F := Ideal) s (iblk m c 3 t) (ix2 r n)
      = projAt (m ((c : Thread nD τ).loc main_arg0)) (m ((c : Thread nD τ).loc main_arg1))
          (m ((c : Thread nD τ).loc main_arg2)) R N := by
  rw [pay2_at]
  unfold projAt
  refine Fin.sum_fin_congr fun k => ?_
  refine Ideal.mul_congr (hs r k R hR) ?_
  blk_ext [iblk, V, idx t]

/-- A load of the first row of the gains. -/
theorem ld_row0 (X : Vec Ideal S2x128 .f32) (hb) (l : Fin 128) :
    (show Vec Ideal S1x128 .f32 from View.ld X (Rect.unit (s := S2x128) ![0, 0] ![1, 128] hb)) (ix2 0 l) = X (ix2 0 l) := by
  refine congrArg X (funext fun a => Fin.ext ?_)
  match a with
  | 0 => exact (Rect.idx_unit_val _ _ _ _ _).trans rfl
  | 1 => exact (Rect.idx_unit_val _ _ _ _ _).trans (Nat.zero_add _)

/-- A load of the second row of the gains. -/
theorem ld_row1 (X : Vec Ideal S2x128 .f32) (hb) (l : Fin 128) :
    (show Vec Ideal S1x128 .f32 from View.ld X (Rect.unit (s := S2x128) ![1, 0] ![1, 128] hb)) (ix2 0 l) = X (ix2 1 l) := by
  refine congrArg X (funext fun a => Fin.ext ?_)
  match a with
  | 0 => exact (Rect.idx_unit_val _ _ _ _ _).trans rfl
  | 1 => exact (Rect.idx_unit_val _ _ _ _ _).trans (Nat.zero_add _)

/-- The window of gains is the whole table. -/
theorem gain_blk (c : Dev nD) (t : Fin cfg0.N) (a : Fin 2) (l : Fin 128) :
    (show FVec Ideal S2x128 .f32 from iblk m c 4 t) (ix2 a l) = (V m c main_v6 : FVec Ideal S2x128 .f32) (ix2 a l) := by
  blk_ext [iblk, idx t]

/-- The gain of a point: the first argument's below block 4, the second's from there. -/
theorem gain_ld (c : Dev nD) (t : Fin cfg0.N) (hb0 hb1) (l : Fin 128) :
    k0_pay5 (F := Ideal) (BitVec.ofNat 32 (grid0.coords t 1).val)
        (View.ld (iblk m c 4 t) (Rect.unit (s := S2x128) ![0, 0] ![1, 128] hb0))
        (View.ld (iblk m c 4 t) (Rect.unit (s := S2x128) ![1, 0] ![1, 128] hb1)) (ix2 0 l)
      = (if t.val % 6 < 4 then m ((c : Thread nD τ).loc main_arg3) else m ((c : Thread nD τ).loc main_arg4)) (ix2 0 l) := by
  rw [(idx t).2.2.2.2.2.2.2.2.1]
  refine (pay5_at ⟨t.val % 6, by omega⟩ _ _ l).trans ?_
  by_cases h : t.val % 6 < 4
  · rw [if_pos h, if_pos h]
    exact ((ld_row0 (iblk m c 4 t) hb0 l).trans (gain_blk m c t 0 l)).trans ((gain_at m c 0 l).trans (if_pos Nat.one_pos))
  · rw [if_neg h, if_neg h]
    exact ((ld_row1 (iblk m c 4 t) hb1 l).trans (gain_blk m c t 1 l)).trans ((gain_at m c 1 l).trans (if_neg (Nat.lt_irrefl 1)))

/-- The cosines a point is given. -/
theorem cos_blk (c : Dev nD) (t : Fin cfg0.N) (r : Fin 1024) (l : Fin 128) (R : Fin 8192) (hR : R.val = t.val / 6 * 1024 + r.val) :
    (show FVec Ideal S1024x128 .f32 from iblk m c 5 t) (ix2 r l) = Cert.QkvRefIdeal.Read.val_main_v57 (F := Ideal) (ix2 R l) := by
  rw [← cos_tab m c]
  blk_ext [iblk, idx t]

/-- The sines a point is given. -/
theorem sin_blk (c : Dev nD) (t : Fin cfg0.N) (r : Fin 1024) (l : Fin 128) (R : Fin 8192) (hR : R.val = t.val / 6 * 1024 + r.val) :
    (show FVec Ideal S1024x128 .f32 from iblk m c 6 t) (ix2 r l) = Cert.QkvRefIdeal.Read.val_main_v58 (F := Ideal) (ix2 R l)
      * (if l.val / 32 % 2 = 0 then -1 else 1) := by
  rw [← sin_at m c]
  blk_ext [iblk, idx t]

/-- At the other points it is what the point before left. -/
theorem scratch_B (c : Dev nD) (t : Fin cfg0.N) (h : ¬t.val % 6 = 0) :
    (outsAt0 m c t.val t.isLt).2
      = (outsAt0 m c (t.val - 1) (Nat.lt_of_le_of_lt (Nat.sub_le _ _) t.isLt)).2 := by
  by_cases h5 : t.val % 6 = 5
  · rw [outsAt0_C m c t h (by omega) h5]
    dsimp only
    unfold sout0_C_0
    rfl
  · rw [outsAt0_B m c t h (by omega) h5]
    dsimp only
    unfold sout0_B_0
    rfl

/-- The rows a point at the start of a row block modulates. -/
theorem mod_at (c : Dev nD) (t : Fin cfg0.N) (hb0 hb1) (r : Fin 1024) (k : Fin 2048) (R : Fin 8192)
    (hR : R.val = t.val / 6 * 1024 + r.val) :
    k0_pay1 (F := Ideal) (iblk m c 0 t) (View.ld (iblk m c 2 t) (Rect.unit (s := S1x8x2048) ![0, 0, 0] ![1, 1, 2048] hb0))
        (View.ld (iblk m c 1 t) (Rect.unit (s := S1x8x2048) ![0, 0, 0] ![1, 1, 2048] hb1)) (ix2 r k)
      = hAt (m ((c : Thread nD τ).loc main_arg0)) (m ((c : Thread nD τ).loc main_arg1)) R k := by
  rw [pay1_at]
  pointwise [hAt]
  blk_point [iblk, V, idx t]

/-- At the first point of a row block the scratch takes the modulated rows of the block. -/
theorem scratch_A (c : Dev nD) (t : Fin cfg0.N) (h : t.val % 6 = 0) (r : Fin 1024) (k : Fin 2048) (R : Fin 8192)
    (hR : R.val = t.val / 6 * 1024 + r.val) :
    (outsAt0 m c t.val t.isLt).2 (ix2 r k)
      = hAt (m ((c : Thread nD τ).loc main_arg0)) (m ((c : Thread nD τ).loc main_arg1)) R k := by
  rw [outsAt0_A m c t h (by omega) (by omega)]
  frame_out
  exact mod_at m c t _ _ r k R hR

/-- After any point the scratch holds the modulated rows of the point's row block. -/
theorem scratch_at (c : Dev nD) (n : ℕ) : ∀ (hn : n < cfg0.N) (r : Fin 1024) (k : Fin 2048) (R : Fin 8192),
    R.val = n / 6 * 1024 + r.val →
    (outsAt0 m c n hn).2 (ix2 r k)
      = hAt (m ((c : Thread nD τ).loc main_arg0)) (m ((c : Thread nD τ).loc main_arg1)) R k := by
  induction n with
  | zero =>
    intro hn r k R hR
    exact scratch_A m c ⟨0, hn⟩ rfl r k R hR
  | succ n ih =>
    intro hn r k R hR
    by_cases h : (n + 1) % 6 = 0
    · exact scratch_A m c ⟨n + 1, hn⟩ h r k R hR
    · rw [scratch_B m c ⟨n + 1, hn⟩ h]
      exact ih (Nat.lt_of_succ_lt hn) r k R (by omega)

/-- A head of a query or key block is the reference's, given the lanes, gain and tables it is computed from. -/
theorem head_blk (c : Dev nD) (t : Fin cfg0.N) (ht : t.val % 6 ≤ 4) (s : FVec Ideal S1024x2048 .bf16)
    (hs : ∀ (r : Fin 1024) (k : Fin 2048) (R : Fin 8192), R.val = t.val / 6 * 1024 + r.val →
      s (ix2 r k) = hAt (m ((c : Thread nD τ).loc main_arg0)) (m ((c : Thread nD τ).loc main_arg1)) R k)
    (q : Fin 4) (r : Fin 1024) (l : Fin 128) (R : Fin 8192) (N : Fin 3072)
    (hR : R.val = t.val / 6 * 1024 + r.val) (hN : N.val = t.val % 6 * 512 + (q.val * 128 + l.val)) (y g cs sn : Fin 128 → EReal)
    (hy : ∀ e : Fin 128, y e = k0_pay2 (F := Ideal) s (iblk m c 3 t) (ix2 r ⟨q.val * 128 + e.val, by omega⟩))
    (hg : ∀ e : Fin 128, g e
      = (if t.val % 6 < 4 then m ((c : Thread nD τ).loc main_arg3) else m ((c : Thread nD τ).loc main_arg4)) (ix2 0 e))
    (hc : ∀ e : Fin 128, cs e = (show FVec Ideal S1024x128 .f32 from iblk m c 5 t) (ix2 r e))
    (hs' : ∀ e : Fin 128, sn e = (show FVec Ideal S1024x128 .f32 from iblk m c 6 t) (ix2 r e)) :
    kheadAt y g cs sn l = qkvAt (m ((c : Thread nD τ).loc main_arg0)) (m ((c : Thread nD τ).loc main_arg1))
      (m ((c : Thread nD τ).loc main_arg2)) (m ((c : Thread nD τ).loc main_arg3)) (m ((c : Thread nD τ).loc main_arg4)) R N := by
  have e : qkvAt (m ((c : Thread nD τ).loc main_arg0)) (m ((c : Thread nD τ).loc main_arg1))
      (m ((c : Thread nD τ).loc main_arg2)) (m ((c : Thread nD τ).loc main_arg3)) (m ((c : Thread nD τ).loc main_arg4)) R N
      = headAt (m ((c : Thread nD τ).loc main_arg0)) (m ((c : Thread nD τ).loc main_arg1)) (m ((c : Thread nD τ).loc main_arg2))
        (if t.val % 6 < 4 then m ((c : Thread nD τ).loc main_arg3) else m ((c : Thread nD τ).loc main_arg4)) R
        ⟨t.val % 6 * 4 + q.val, by omega⟩ l := by
    unfold qkvAt
    rw [if_pos (by omega)]
    have e1 : (⟨N.val / 128, by omega⟩ : Fin 24) = ⟨t.val % 6 * 4 + q.val, by omega⟩ := Fin.ext (by dsimp only; omega)
    have e2 : (⟨N.val % 128, by omega⟩ : Fin 128) = l := Fin.ext (by dsimp only; omega)
    rw [e1, e2]
    by_cases h : t.val % 6 < 4
    · rw [if_pos h, if_pos (by omega)]
    · rw [if_neg h, if_neg (by omega)]
  rw [e]
  refine khead_eq _ _ _ _ R _ l y g cs sn (fun e => (hy e).trans ?_) hg (fun e => (hc e).trans (cos_blk m c t r e R hR))
    (fun e => (hs' e).trans (sin_blk m c t r e R hR))
  exact proj_at m c t s hs r _ R _ hR (by dsimp only; omega)

/-- What a grid point leaves in its block. -/
theorem out_at (c : Dev nD) (t : Fin cfg0.N) (y : S1024x512.Idx) (R : Fin 8192) (N : Fin 3072)
    (hR : R.val = t.val / 6 * 1024 + (y 0).val) (hN : N.val = t.val % 6 * 512 + (y 1).val) :
    (outsAt0 m c t.val t.isLt).1 y = qkvAt (m ((c : Thread nD τ).loc main_arg0)) (m ((c : Thread nD τ).loc main_arg1))
      (m ((c : Thread nD τ).loc main_arg2)) (m ((c : Thread nD τ).loc main_arg3)) (m ((c : Thread nD τ).loc main_arg4)) R N := by
  have hprev : ¬t.val % 6 = 0 → ∀ (h : t.val - 1 < cfg0.N) (r : Fin 1024) (k : Fin 2048) (R : Fin 8192), R.val = t.val / 6 * 1024 + r.val →
      (outsAt0 m c (t.val - 1) h).2 (ix2 r k)
        = hAt (m ((c : Thread nD τ).loc main_arg0)) (m ((c : Thread nD τ).loc main_arg1)) R k :=
    fun hn h r k R hR => scratch_at m c (t.val - 1) h r k R (by omega)
  by_cases h5 : t.val % 6 = 5
  · rw [outsAt0_C m c t (by omega) (by omega) h5]
    frame_out
    have e : qkvAt (m ((c : Thread nD τ).loc main_arg0)) (m ((c : Thread nD τ).loc main_arg1))
        (m ((c : Thread nD τ).loc main_arg2)) (m ((c : Thread nD τ).loc main_arg3)) (m ((c : Thread nD τ).loc main_arg4)) R N
        = projAt (m ((c : Thread nD τ).loc main_arg0)) (m ((c : Thread nD τ).loc main_arg1)) (m ((c : Thread nD τ).loc main_arg2)) R N := by
      unfold qkvAt
      rw [if_neg (by omega)]
    refine (congrArg _ (eq_ix2 y)).trans (Eq.trans ?_ e.symm)
    refine ((pay4_at _ _ (y 0) (y 1)).trans (pay2_at _ _ (y 0) (y 1)).symm).trans ?_
    exact proj_at m c t _ (fun r k R hR => (congrFun (Memref.IsWhole.read_unread _ _) _).trans (hprev (by omega) _ r k R hR)) (y 0) (y 1) R N hR hN
  · by_cases h0 : t.val % 6 = 0
    · rw [outsAt0_A m c t h0 (by omega) h5]
      frame_out
      canon_tiles x h
      case piece0 =>
        refine (congrArg _ (eq_ix2 x)).trans ((pay3_at _ _ _ _ (x 0) (x 1)).trans ?_)
        exact head_blk m c t (by omega) _ (fun r k R hR => mod_at m c t _ _ r k R hR) 3 (x 0) (x 1) R N
          (by omega) (show N.val = t.val % 6 * 512 + (3 * 128 + (x 1).val) by omega) _ _ _ _ (fun e => rfl) (fun e => gain_ld m c t _ _ e) (fun e => pay6_at _ _ e) (fun e => pay7_at _ _ e)
      case piece1 =>
        refine (congrArg _ (eq_ix2 x)).trans ((pay13_at _ _ _ _ (x 0) (x 1)).trans ?_)
        exact head_blk m c t (by omega) _ (fun r k R hR => mod_at m c t _ _ r k R hR) 2 (x 0) (x 1) R N
          (by omega) (show N.val = t.val % 6 * 512 + (2 * 128 + (x 1).val) by omega) _ _ _ _ (fun e => rfl) (fun e => gain_ld m c t _ _ e) (fun e => pay6_at _ _ e) (fun e => pay7_at _ _ e)
      case piece2 =>
        refine (congrArg _ (eq_ix2 x)).trans ((pay12_at _ _ _ _ (x 0) (x 1)).trans ?_)
        exact head_blk m c t (by omega) _ (fun r k R hR => mod_at m c t _ _ r k R hR) 1 (x 0) (x 1) R N
          (by omega) (show N.val = t.val % 6 * 512 + (1 * 128 + (x 1).val) by omega) _ _ _ _ (fun e => rfl) (fun e => gain_ld m c t _ _ e) (fun e => pay6_at _ _ e) (fun e => pay7_at _ _ e)
      case piece3 =>
        refine (congrArg _ (eq_ix2 x)).trans ((pay9_at _ _ _ _ _ _ (x 0) (x 1)).trans ?_)
        exact head_blk m c t (by omega) _ (fun r k R hR => mod_at m c t _ _ r k R hR) 0 (x 0) (x 1) R N
          (by omega) (show N.val = t.val % 6 * 512 + (0 * 128 + (x 1).val) by omega) _ _ _ _ (fun e => congrArg _ (congrArg (ix2 (x 0)) (Fin.ext (by dsimp only; omega)))) (fun e => gain_ld m c t _ _ e) (fun e => rfl) (fun e => rfl)
    · rw [outsAt0_B m c t h0 (by omega) h5]
      frame_out
      canon_tiles x h
      case piece0 =>
        refine (congrArg _ (eq_ix2 x)).trans ((pay3_at _ _ _ _ (x 0) (x 1)).trans ?_)
        exact head_blk m c t (by omega) _ (fun r k R hR => (congrFun (Memref.IsWhole.read_unread _ _) _).trans (hprev (by omega) _ r k R hR)) 3 (x 0) (x 1) R N
          (by omega) (show N.val = t.val % 6 * 512 + (3 * 128 + (x 1).val) by omega) _ _ _ _ (fun e => rfl) (fun e => gain_ld m c t _ _ e) (fun e => pay6_at _ _ e) (fun e => pay7_at _ _ e)
      case piece1 =>
        refine (congrArg _ (eq_ix2 x)).trans ((pay13_at _ _ _ _ (x 0) (x 1)).trans ?_)
        exact head_blk m c t (by omega) _ (fun r k R hR => (congrFun (Memref.IsWhole.read_unread _ _) _).trans (hprev (by omega) _ r k R hR)) 2 (x 0) (x 1) R N
          (by omega) (show N.val = t.val % 6 * 512 + (2 * 128 + (x 1).val) by omega) _ _ _ _ (fun e => rfl) (fun e => gain_ld m c t _ _ e) (fun e => pay6_at _ _ e) (fun e => pay7_at _ _ e)
      case piece2 =>
        refine (congrArg _ (eq_ix2 x)).trans ((pay12_at _ _ _ _ (x 0) (x 1)).trans ?_)
        exact head_blk m c t (by omega) _ (fun r k R hR => (congrFun (Memref.IsWhole.read_unread _ _) _).trans (hprev (by omega) _ r k R hR)) 1 (x 0) (x 1) R N
          (by omega) (show N.val = t.val % 6 * 512 + (1 * 128 + (x 1).val) by omega) _ _ _ _ (fun e => rfl) (fun e => gain_ld m c t _ _ e) (fun e => pay6_at _ _ e) (fun e => pay7_at _ _ e)
      case piece3 =>
        refine (congrArg _ (eq_ix2 x)).trans ((pay9_at _ _ _ _ _ _ (x 0) (x 1)).trans ?_)
        exact head_blk m c t (by omega) _ (fun r k R hR => (congrFun (Memref.IsWhole.read_unread _ _) _).trans (hprev (by omega) _ r k R hR)) 0 (x 0) (x 1) R N
          (by omega) (show N.val = t.val % 6 * 512 + (0 * 128 + (x 1).val) by omega) _ _ _ _ (fun e => congrArg _ (congrArg (ix2 (x 0)) (Fin.ext (by dsimp only; omega)))) (fun e => gain_ld m c t _ _ e) (fun e => rfl) (fun e => rfl)

/-- The result array after the run. -/
theorem final (c : Dev nD) : (dats m 0 c).arrAt 7 (cfgs 0).N
    = fun i : S8192x3072.Idx => qkvAt (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  blk_simp
  rw [after0_7]
  refine out_at m c t y _ _ ?_ ?_
  all_goals blk_simp [idx t] <;> (try dsimp only) <;> try omega

/-- The kernel's result is the reference's, at every index. -/
theorem algebraic : Cert.algebraic_QkvIdeal_QkvRefIdeal := by
  pair_intro
  · run_from Cert.QkvIdeal.Gen.run_main m g
    · exact V_main_arg3 m c
    · exact V_main_arg4 m c
  · refine (θ_run Cert.QkvRefIdeal.defs _ _).mono (fun _ h c => ⟨(h c).1.trans ?_, (h c).2⟩)
      (Cert.QkvRefIdeal.Value.run (F := Ideal) m' g')
    rw [Cert.QkvRefIdeal.Read.val_main_v138_eq, (hagree c).1, (hagree c).2.1, (hagree c).2.2.1, (hagree c).2.2.2.1, (hagree c).2.2.2.2]
    exact (funext fun i => Cert.QkvRef.ref_at _ _ _ _ _ i).trans (final m c).symm

end Cert.QkvIdeal.Final
-- ==== Proof.lean ====
/- Every claim of this certificate: each program's run and its counters, the idealized kernels against their own
modules, and each kernel's result against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInRefIdeal
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutRefIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import proofs.«01_k».proof.Proof.Gen.KernelIdeal.Value
public import proofs.«01_k».proof.Proof.Gen.FfnUpIdeal.Value
public import proofs.«01_k».proof.Proof.Gen.FfnDownIdeal.Value
public import proofs.«01_k».proof.Proof.Gen.ConvInIdeal.Value
public import proofs.«01_k».proof.Proof.Gen.ConvOutIdeal.Value
public import proofs.«01_k».proof.Proof.Gen.AttnOutIdeal.Value
public import proofs.«01_k».proof.Proof.Gen.ReferenceIdeal.Run
public import proofs.«01_k».proof.Proof.Gen.ReferenceIdeal.Read
public import proofs.«01_k».proof.Proof.Gen.FfnUpRefIdeal.Run
public import proofs.«01_k».proof.Proof.Gen.FfnUpRefIdeal.Read
public import proofs.«01_k».proof.Proof.Gen.FfnDownRefIdeal.Run
public import proofs.«01_k».proof.Proof.Gen.FfnDownRefIdeal.Read
public import proofs.«01_k».proof.Proof.Gen.ConvInRefIdeal.Run
public import proofs.«01_k».proof.Proof.Gen.ConvInRefIdeal.Read
public import proofs.«01_k».proof.Proof.Gen.ConvOutRefIdeal.Run
public import proofs.«01_k».proof.Proof.Gen.ConvOutRefIdeal.Read
public import proofs.«01_k».proof.Proof.Gen.AttnOutRefIdeal.Run
public import proofs.«01_k».proof.Proof.Gen.AttnOutRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.Finite
public import proofs.«01_k».proof.Proof.Attn
public import proofs.«01_k».proof.Proof.FfnUp
public import proofs.«01_k».proof.Proof.FfnDown
public import proofs.«01_k».proof.Proof.ConvIn
public import proofs.«01_k».proof.Proof.ConvOut
public import proofs.«01_k».proof.Proof.AttnOut
public import proofs.«01_k».proof.Proof.Qkv
public import Idealize.ShloMosaic.Adequacy
public import Idealize.ShloMosaic.Init

@[expose] public section

noncomputable section

namespace Cert.Proof

open Idealize.ShloMosaic Idealize.SL.Sem

/-! Each program runs, leaves its arguments as they were and every counter at zero. -/

/-- The attention's reference. -/
theorem quiet_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same over finite arguments. -/
theorem quiet_ReferenceIdeal_pre_finite : Cert.quiescent_ReferenceIdeal_pre_finite := fun m ρ _ => quiet_ReferenceIdeal m ρ trivial

/-- The first feed-forward product's reference. -/
theorem quiet_FfnUpRefIdeal : Cert.quiescent_FfnUpRefIdeal := fun m ρ _ =>
  (θ_run Cert.FfnUpRefIdeal.defs _ _).mono (fun r h => ⟨fun c => (h c).2.2, Idealize.ShloMosaic.sem_eq_zero_of_no_sems (by decide) r.2⟩)
    (Cert.FfnUpRefIdeal.Value.run (F := Ideal) m ρ)

/-- The second feed-forward product's reference. -/
theorem quiet_FfnDownRefIdeal : Cert.quiescent_FfnDownRefIdeal := fun m ρ _ =>
  (θ_run Cert.FfnDownRefIdeal.defs _ _).mono (fun r h => ⟨fun c => (h c).2, Idealize.ShloMosaic.sem_eq_zero_of_no_sems (by decide) r.2⟩)
    (Cert.FfnDownRefIdeal.Value.run (F := Ideal) m ρ)

/-- The convolution's reference. -/
theorem quiet_ConvInRefIdeal : Cert.quiescent_ConvInRefIdeal := fun m ρ _ =>
  (θ_run Cert.ConvInRefIdeal.defs _ _).mono (fun r h => ⟨fun c => (h c).2.2, Idealize.ShloMosaic.sem_eq_zero_of_no_sems (by decide) r.2⟩)
    (Cert.ConvInRefIdeal.Value.run (F := Ideal) m ρ)

/-- The convolution block's output projection's reference. -/
theorem quiet_ConvOutRefIdeal : Cert.quiescent_ConvOutRefIdeal := fun m ρ _ =>
  (θ_run Cert.ConvOutRefIdeal.defs _ _).mono (fun r h => ⟨fun c => (h c).2, Idealize.ShloMosaic.sem_eq_zero_of_no_sems (by decide) r.2⟩)
    (Cert.ConvOutRefIdeal.Value.run (F := Ideal) m ρ)

/-- The attention's output projection's reference. -/
theorem quiet_AttnOutRefIdeal : Cert.quiescent_AttnOutRefIdeal := fun m ρ _ =>
  (θ_run Cert.AttnOutRefIdeal.defs _ _).mono (fun r h => ⟨fun c => (h c).2, Idealize.ShloMosaic.sem_eq_zero_of_no_sems (by decide) r.2⟩)
    (Cert.AttnOutRefIdeal.Value.run (F := Ideal) m ρ)

/-- The q/k/v projection's reference. -/
theorem quiet_QkvRefIdeal : Cert.quiescent_QkvRefIdeal := fun m ρ _ =>
  (θ_run Cert.QkvRefIdeal.defs _ _).mono (fun r h => ⟨fun c => (h c).2, Idealize.ShloMosaic.sem_eq_zero_of_no_sems (by decide) r.2⟩)
    (Cert.QkvRefIdeal.Value.run (F := Ideal) m ρ)

/-- Every claim of the certificate. -/
theorem claim : Cert.Claim :=
  ⟨Cert.Kernel.Gen.facts, Cert.KernelIdeal.Gen.facts, Cert.ReferenceIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.ConvIn.Gen.facts, Cert.ConvInIdeal.Gen.facts, Cert.ConvInRefIdeal.Gen.facts, Cert.ConvOut.Gen.facts, Cert.ConvOutIdeal.Gen.facts, Cert.ConvOutRefIdeal.Gen.facts, Cert.AttnOut.Gen.facts, Cert.AttnOutIdeal.Gen.facts, Cert.AttnOutRefIdeal.Gen.facts, Cert.Qkv.Gen.facts, Cert.QkvIdeal.Gen.facts, Cert.QkvRefIdeal.Gen.facts, Cert.Finite.facts,
    fun m ρ _ => Cert.Kernel.Gen.frame m ρ,
    fun m ρ _ => Cert.KernelIdeal.Gen.frame m ρ,
    fun m ρ _ => Cert.KernelIdeal.Gen.frame m ρ,
    quiet_ReferenceIdeal,
    quiet_ReferenceIdeal_pre_finite,
    fun m ρ _ => Cert.FfnUp.Gen.frame m ρ,
    fun m ρ _ => Cert.FfnUpIdeal.Gen.frame m ρ,
    quiet_FfnUpRefIdeal,
    fun m ρ _ => Cert.FfnDown.Gen.frame m ρ,
    fun m ρ _ => Cert.FfnDownIdeal.Gen.frame m ρ,
    quiet_FfnDownRefIdeal,
    fun m ρ _ => Cert.ConvIn.Gen.frame m ρ,
    fun m ρ _ => Cert.ConvInIdeal.Gen.frame m ρ,
    quiet_ConvInRefIdeal,
    fun m ρ _ => Cert.ConvOut.Gen.frame m ρ,
    fun m ρ _ => Cert.ConvOutIdeal.Gen.frame m ρ,
    quiet_ConvOutRefIdeal,
    fun m ρ _ => Cert.AttnOut.Gen.frame m ρ,
    fun m ρ _ => Cert.AttnOutIdeal.Gen.frame m ρ,
    quiet_AttnOutRefIdeal,
    fun m ρ _ => Cert.Qkv.Gen.frame m ρ,
    fun m ρ _ => Cert.QkvIdeal.Gen.frame m ρ,
    quiet_QkvRefIdeal,
    IdealRules.named_const.statement Cert.KernelIdeal.κ "mask" .f32 0xF149F2CA#32 ⊥ rfl,
    Cert.KernelIdeal.Final.algebraic,
    trivial,
    Cert.FfnUpIdeal.Final.algebraic,
    trivial,
    Cert.FfnDownIdeal.Final.algebraic,
    trivial,
    Cert.ConvInIdeal.Final.algebraic,
    trivial,
    Cert.ConvOutIdeal.Final.algebraic,
    trivial,
    Cert.AttnOutIdeal.Final.algebraic,
    trivial,
    Cert.QkvIdeal.Final.algebraic⟩

end Cert.Proof

end
